-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S3x512x1152 : Shape := ⟨3, ![3, 512, 1152]⟩
abbrev S512x1152 : Shape := ⟨2, ![512, 1152]⟩
abbrev S4x512x896 : Shape := ⟨3, ![4, 512, 896]⟩
abbrev S3x512x512 : Shape := ⟨3, ![3, 512, 512]⟩
abbrev S3x512x384 : Shape := ⟨3, ![3, 512, 384]⟩
abbrev S3 : Shape := ⟨1, ![3]⟩
abbrev S_ : Shape := ⟨0, ![]⟩
abbrev S4 : Shape := ⟨1, ![4]⟩
abbrev S512x512 : Shape := ⟨2, ![512, 512]⟩
abbrev S1x512x1152 : Shape := ⟨3, ![1, 512, 1152]⟩
abbrev S1 : Shape := ⟨1, ![1]⟩
abbrev S512x896 : Shape := ⟨2, ![512, 896]⟩
abbrev S1x512x896 : Shape := ⟨3, ![1, 512, 896]⟩
abbrev S1x512x512 : Shape := ⟨3, ![1, 512, 512]⟩
abbrev S512x384 : Shape := ⟨2, ![512, 384]⟩
abbrev S1x512x384 : Shape := ⟨3, ![1, 512, 384]⟩

abbrev nBuf : Space → Nat
  | .hbm => 3
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S3x512x1152, .f32⟩
  | .local _ .vmem, ⟨4, _⟩ => ⟨S3x512x1152, .f32⟩
  | .local _ .vmem, ⟨5, _⟩ => ⟨S512x1152, .f32⟩
  | .local _ .vmem, ⟨6, _⟩ => ⟨S4x512x896, .f32⟩
  | .local _ .vmem, ⟨7, _⟩ => ⟨S4x512x896, .f32⟩
  | .local _ .vmem, ⟨8, _⟩ => ⟨S3x512x512, .f32⟩
  | .local _ .vmem, ⟨9, _⟩ => ⟨S3x512x384, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_14 : BitVec 32 := 1#32
  let v32 : BitVec 32 := Scalar.muli v24 c1_i32_14
  let v33 : BitVec 32 := Scalar.addi c0_i32_15 v32
  v33.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_17 : BitVec 32 := 1#32
  let v34 : BitVec 32 := Scalar.muli v28 c1_i32_17
  let v35 : BitVec 32 := Scalar.addi c0_i32_18 v34
  v35.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_20 : BitVec 32 := 1#32
  let v36 : BitVec 32 := Scalar.muli v30 c1_i32_20
  let v37 : BitVec 32 := Scalar.addi c0_i32_21 v36
  v37.toNat
def k0_off1 (d0 : Dev nD) (c3_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_25 : BitVec 32 := 4#32
  let v40 : BitVec 32 := Scalar.muli v19 c4_i32_25
  let c4_i32_5 : BitVec 32 := 4#32
  let v20 : BitVec 32 := Scalar.remsi v2 c4_i32_5
  let v38 : BitVec 32 := Scalar.addi v20 c3_i32_23
  let c4_i32_24 : BitVec 32 := 4#32
  let v39 : BitVec 32 := Scalar.remsi v38 c4_i32_24
  let v41 : BitVec 32 := Scalar.addi v40 v39
  let c512_i32 : BitVec 32 := 512#32
  let v42 : BitVec 32 := Scalar.muli v41 c512_i32
  let v43 : Index := Scalar.indexCast v42
  let c0 : Index := 0#32
  ![v43.toNat, 0]
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_35 : BitVec 32 := 1#32
  let v52 : BitVec 32 := Scalar.muli v24 c1_i32_35
  let v53 : BitVec 32 := Scalar.addi c0_i32_36 v52
  v53.toNat
def k0_off2 (d0 : Dev nD) (c1_i32_41 : BitVec 32) : Fin 2 → Nat :=
  let c1_i32_43 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.subi c1_i32_43 v19
  let c4_i32_44 : BitVec 32 := 4#32
  let v65 : BitVec 32 := Scalar.muli v64 c4_i32_44
  let c4_i32_5 : BitVec 32 := 4#32
  let v20 : BitVec 32 := Scalar.remsi v2 c4_i32_5
  let v62 : BitVec 32 := Scalar.addi v20 c1_i32_41
  let c4_i32_42 : BitVec 32 := 4#32
  let v63 : BitVec 32 := Scalar.remsi v62 c4_i32_42
  let v66 : BitVec 32 := Scalar.addi v65 v63
  let c512_i32_45 : BitVec 32 := 512#32
  let v67 : BitVec 32 := Scalar.muli v66 c512_i32_45
  let v68 : Index := Scalar.indexCast v67
  let c0_46 : Index := 0#32
  ![v68.toNat, 0]
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_57 : BitVec 32 := 1#32
  let v77 : BitVec 32 := Scalar.muli v28 c1_i32_57
  let v78 : BitVec 32 := Scalar.addi c0_i32_58 v77
  v78.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_81 : BitVec 32 := 1#32
  let v106 : BitVec 32 := Scalar.muli v30 c1_i32_81
  let v107 : BitVec 32 := Scalar.addi c0_i32_82 v106
  v107.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_100 : BitVec 32 := 1#32
  let v129 : BitVec 32 := Scalar.muli v30 c1_i32_100
  let v130 : BitVec 32 := Scalar.addi c0_i32_101 v129
  v130.toNat
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_119 : BitVec 32 := 1#32
  let v152 : BitVec 32 := Scalar.muli v30 c1_i32_119
  let v153 : BitVec 32 := Scalar.addi c0_i32_120 v152
  v153.toNat
def k0_off3 (d0 : Dev nD) : Fin 2 → Nat :=
  let c1_i32_125 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v162 : BitVec 32 := Scalar.subi c1_i32_125 v19
  let c4_i32_126 : BitVec 32 := 4#32
  let v163 : BitVec 32 := Scalar.muli v162 c4_i32_126
  let c4_i32_5 : BitVec 32 := 4#32
  let v20 : BitVec 32 := Scalar.remsi v2 c4_i32_5
  let v164 : BitVec 32 := Scalar.addi v163 v20
  let c512_i32_127 : BitVec 32 := 512#32
  let v165 : BitVec 32 := Scalar.muli v164 c512_i32_127
  let v166 : Index := Scalar.indexCast v165
  let c0_128 : Index := 0#32
  ![v166.toNat, 0]
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_138 : BitVec 32 := 1#32
  let v175 : BitVec 32 := Scalar.muli v30 c1_i32_138
  let v176 : BitVec 32 := Scalar.addi c0_i32_139 v175
  v176.toNat
def k0_off4 (d0 : Dev nD) (c0_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_168 : BitVec 32 := 4#32
  let v204 : BitVec 32 := Scalar.muli v19 c4_i32_168
  let c4_i32_5 : BitVec 32 := 4#32
  let v20 : BitVec 32 := Scalar.remsi v2 c4_i32_5
  let v201 : BitVec 32 := Scalar.subi v20 c0_i32_166
  let c6_i32 : BitVec 32 := 6#32
  let v202 : BitVec 32 := Scalar.addi v201 c6_i32
  let c4_i32_167 : BitVec 32 := 4#32
  let v203 : BitVec 32 := Scalar.remsi v202 c4_i32_167
  let v205 : BitVec 32 := Scalar.addi v204 v203
  let c512_i32_169 : BitVec 32 := 512#32
  let v206 : BitVec 32 := Scalar.muli v205 c512_i32_169
  let v207 : Index := Scalar.indexCast v206
  let c0_170 : Index := 0#32
  ![v207.toNat, 0]
def k0_off5 (d0 : Dev nD) (c0_i32_199 : BitVec 32) : Fin 2 → Nat :=
  let c1_i32_202 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v236 : BitVec 32 := Scalar.subi c1_i32_202 v19
  let c4_i32_203 : BitVec 32 := 4#32
  let v237 : BitVec 32 := Scalar.muli v236 c4_i32_203
  let c4_i32_5 : BitVec 32 := 4#32
  let v20 : BitVec 32 := Scalar.remsi v2 c4_i32_5
  let v233 : BitVec 32 := Scalar.addi v20 c0_i32_199
  let c2_i32_200 : BitVec 32 := 2#32
  let v234 : BitVec 32 := Scalar.addi v233 c2_i32_200
  let c4_i32_201 : BitVec 32 := 4#32
  let v235 : BitVec 32 := Scalar.remsi v234 c4_i32_201
  let v238 : BitVec 32 := Scalar.addi v237 v235
  let c512_i32_204 : BitVec 32 := 512#32
  let v239 : BitVec 32 := Scalar.muli v238 c512_i32_204
  let v240 : Index := Scalar.indexCast v239
  let c0_205 : Index := 0#32
  ![v240.toNat, 0]
def k0_dev10 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_216 : BitVec 32 := 1#32
  let v250 : BitVec 32 := Scalar.muli v24 c1_i32_216
  let v251 : BitVec 32 := Scalar.addi c0_i32_217 v250
  v251.toNat
def k0_dev11 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_226 : BitVec 32 := 1#32
  let v260 : BitVec 32 := Scalar.muli v28 c1_i32_226
  let v261 : BitVec 32 := Scalar.addi c0_i32_227 v260
  v261.toNat
def k0_dev12 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_305 : BitVec 32 := 1#32
  let v335 : BitVec 32 := Scalar.muli v24 c1_i32_305
  let v336 : BitVec 32 := Scalar.addi c0_i32_306 v335
  v336.toNat
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_315 : BitVec 32 := 1#32
  let v345 : BitVec 32 := Scalar.muli v28 c1_i32_315
  let v346 : BitVec 32 := Scalar.addi c0_i32_316 v345
  v346.toNat
def k0_dev14 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_391 : BitVec 32 := 1#32
  let v420 : BitVec 32 := Scalar.muli v30 c1_i32_391
  let v421 : BitVec 32 := Scalar.addi c0_i32_392 v420
  v421.toNat
def k0_dev15 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_423 : BitVec 32 := 1#32
  let v449 : BitVec 32 := Scalar.muli v24 c1_i32_423
  let v450 : BitVec 32 := Scalar.addi c0_i32_424 v449
  v450.toNat
def k0_dev16 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_455 : BitVec 32 := 1#32
  let v484 : BitVec 32 := Scalar.muli v28 c1_i32_455
  let v485 : BitVec 32 := Scalar.addi c0_i32_456 v484
  v485.toNat
def k0_dev17 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_551 : BitVec 32 := 1#32
  let v574 : BitVec 32 := Scalar.muli v24 c1_i32_551
  let v575 : BitVec 32 := Scalar.addi c0_i32_552 v574
  v575.toNat
def k0_dev18 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_561 : BitVec 32 := 1#32
  let v584 : BitVec 32 := Scalar.muli v28 c1_i32_561
  let v585 : BitVec 32 := Scalar.addi c0_i32_562 v584
  v585.toNat
def k0_dev19 (d0 : Dev nD) : Nat :=
  let c0_i32_640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_639 : BitVec 32 := 1#32
  let v658 : BitVec 32 := Scalar.muli v24 c1_i32_639
  let v659 : BitVec 32 := Scalar.addi c0_i32_640 v658
  v659.toNat
def k0_dev20 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_649 : BitVec 32 := 1#32
  let v668 : BitVec 32 := Scalar.muli v28 c1_i32_649
  let v669 : BitVec 32 := Scalar.addi c0_i32_650 v668
  v669.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_687 : BitVec 32 := 4#32
  let v702 : BitVec 32 := Scalar.muli v19 c4_i32_687
  let c4_i32_5 : BitVec 32 := 4#32
  let v20 : BitVec 32 := Scalar.remsi v2 c4_i32_5
  let v703 : BitVec 32 := Scalar.addi v702 v20
  let c512_i32_688 : BitVec 32 := 512#32
  let v704 : BitVec 32 := Scalar.muli v703 c512_i32_688
  let v705 : Index := Scalar.indexCast v704
  let c0_689 : Index := 0#32
  ![v705.toNat, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Cells.lean ====
/-
# The copies, the semaphores and the buffers of the kernel

Eight devices in two planes of four; in each plane the four devices form a ring, and each device has a partner at
the same place in the other plane. A device starts seventeen remote copies:
`a0 a1 a2` the first ring to the right, `b0 b1 b2` the first ring to the left, `z0 … z3` the four
exchanged column blocks for the partner, `y` the left ring's result for the partner, `p0 p1 p2` the second ring to
the right, `q0 q1 q2` the second ring to the left. Each copy has a semaphore on the device that starts it and one on
the device it lands on; each of these is credited once and waited for once. The barrier semaphore gets three signals.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

set_option backward.proofsInPublic true in
/-- The next device of the plane's ring. -/
def right (c : Dev nD) : Dev nD := ⟨c.val / 4 * 4 + (c.val + 1) % 4, by have := c.isLt; revert this; generalize c.val = v; show v < 8 → _ < 8; omega⟩
set_option backward.proofsInPublic true in
/-- The device before in the plane's ring. -/
def left (c : Dev nD) : Dev nD := ⟨c.val / 4 * 4 + (c.val + 3) % 4, by have := c.isLt; revert this; generalize c.val = v; show v < 8 → _ < 8; omega⟩
set_option backward.proofsInPublic true in
/-- The device at the same place in the other plane. -/
def across (c : Dev nD) : Dev nD := ⟨(c.val + 4) % 8, by show _ < 8; omega⟩

theorem left_right (c : Dev nD) : left (right c) = c := by revert c; decide
theorem right_left (c : Dev nD) : right (left c) = c := by revert c; decide
theorem across_across (c : Dev nD) : across (across c) = c := by revert c; decide

/-- The ring and the exchange as permutations of the devices. -/
def rightE : Dev nD ≃ Dev nD := ⟨right, left, left_right, right_left⟩
def leftE : Dev nD ≃ Dev nD := ⟨left, right, right_left, left_right⟩
def acrossE : Dev nD ≃ Dev nD := ⟨across, across, across_across, across_across⟩

/-! The devices the kernel computes for its signals and copies. -/

theorem dev1_eq : ∀ c : Dev nD, (⟨k0_dev1 c, k0_dev1_lt c⟩ : Dev nD) = right c := by decide +kernel
theorem dev2_eq : ∀ c : Dev nD, (⟨k0_dev2 c, k0_dev2_lt c⟩ : Dev nD) = left c := by decide +kernel
theorem dev3_eq : ∀ c : Dev nD, (⟨k0_dev3 c, k0_dev3_lt c⟩ : Dev nD) = across c := by decide +kernel
theorem dev4_eq : ∀ c : Dev nD, (⟨k0_dev4 c, k0_dev4_lt c⟩ : Dev nD) = right c := by decide +kernel
theorem dev5_eq : ∀ c : Dev nD, (⟨k0_dev5 c, k0_dev5_lt c⟩ : Dev nD) = left c := by decide +kernel
theorem dev6_eq : ∀ c : Dev nD, (⟨k0_dev6 c, k0_dev6_lt c⟩ : Dev nD) = across c := by decide +kernel
theorem dev7_eq : ∀ c : Dev nD, (⟨k0_dev7 c, k0_dev7_lt c⟩ : Dev nD) = across c := by decide +kernel
theorem dev8_eq : ∀ c : Dev nD, (⟨k0_dev8 c, k0_dev8_lt c⟩ : Dev nD) = across c := by decide +kernel
theorem dev9_eq : ∀ c : Dev nD, (⟨k0_dev9 c, k0_dev9_lt c⟩ : Dev nD) = across c := by decide +kernel
theorem dev10_eq : ∀ c : Dev nD, (⟨k0_dev10 c, k0_dev10_lt c⟩ : Dev nD) = right c := by decide +kernel
theorem dev11_eq : ∀ c : Dev nD, (⟨k0_dev11 c, k0_dev11_lt c⟩ : Dev nD) = left c := by decide +kernel
theorem dev12_eq : ∀ c : Dev nD, (⟨k0_dev12 c, k0_dev12_lt c⟩ : Dev nD) = right c := by decide +kernel
theorem dev13_eq : ∀ c : Dev nD, (⟨k0_dev13 c, k0_dev13_lt c⟩ : Dev nD) = left c := by decide +kernel
theorem dev14_eq : ∀ c : Dev nD, (⟨k0_dev14 c, k0_dev14_lt c⟩ : Dev nD) = across c := by decide +kernel
theorem dev15_eq : ∀ c : Dev nD, (⟨k0_dev15 c, k0_dev15_lt c⟩ : Dev nD) = right c := by decide +kernel
theorem dev16_eq : ∀ c : Dev nD, (⟨k0_dev16 c, k0_dev16_lt c⟩ : Dev nD) = left c := by decide +kernel
theorem dev17_eq : ∀ c : Dev nD, (⟨k0_dev17 c, k0_dev17_lt c⟩ : Dev nD) = right c := by decide +kernel
theorem dev18_eq : ∀ c : Dev nD, (⟨k0_dev18 c, k0_dev18_lt c⟩ : Dev nD) = left c := by decide +kernel
theorem dev19_eq : ∀ c : Dev nD, (⟨k0_dev19 c, k0_dev19_lt c⟩ : Dev nD) = right c := by decide +kernel
theorem dev20_eq : ∀ c : Dev nD, (⟨k0_dev20 c, k0_dev20_lt c⟩ : Dev nD) = left c := by decide +kernel

/-! ## The copies -/

/-- The seventeen copies a device starts. -/
inductive Cp | a0 | a1 | a2 | b0 | b1 | b2 | z0 | z1 | z2 | z3 | y | p0 | p1 | p2 | q0 | q1 | q2
  deriving DecidableEq

instance : Fintype Cp :=
  ⟨{.a0, .a1, .a2, .b0, .b1, .b2, .z0, .z1, .z2, .z3, .y, .p0, .p1, .p2, .q0, .q1, .q2}, by intro i; cases i <;> decide⟩

open Cp

/-- The device a copy of `c` lands on. -/
@[reducible] def dst : Cp → Dev nD → Dev nD
  | a0 | a1 | a2 | p0 | p1 | p2 => right
  | b0 | b1 | b2 | q0 | q1 | q2 => left
  | z0 | z1 | z2 | z3 | y => across

/-- The place of a copy's start in the program, from two on. -/
def ord : Cp → ℕ
  | a0 => 2 | b0 => 3 | z0 => 4 | z1 => 5 | z2 => 6 | z3 => 7 | a1 => 8 | b1 => 9 | a2 => 10 | b2 => 11 | y => 12
  | p0 => 13 | q0 => 14 | p1 => 15 | q1 => 16 | p2 => 17 | q2 => 18

/-! ## Slots of the scratch buffers -/

abbrev xM : Memref sig .tc .vmem S4096x512 .f32 := Memref.whole cc0_stg0_0
abbrev wM : Memref sig .tc .vmem S512x2048 .f32 := Memref.whole cc0_stg1_0
abbrev oM : Memref sig .tc .vmem S512x2048 .f32 := Memref.whole cc0_stg2_0
abbrev aM : Memref sig .tc .vmem S3x512x1152 .f32 := Memref.whole cc0_scratch0
abbrev bM : Memref sig .tc .vmem S3x512x1152 .f32 := Memref.whole cc0_scratch1
abbrev yM : Memref sig .tc .vmem S512x1152 .f32 := Memref.whole cc0_scratch2
abbrev zsM : Memref sig .tc .vmem S4x512x896 .f32 := Memref.whole cc0_scratch3
abbrev zrM : Memref sig .tc .vmem S4x512x896 .f32 := Memref.whole cc0_scratch4
abbrev pM : Memref sig .tc .vmem S3x512x512 .f32 := Memref.whole cc0_scratch5
abbrev qM : Memref sig .tc .vmem S3x512x384 .f32 := Memref.whole cc0_scratch6

abbrev aR0 : Rect S3x512x1152 := Rect.unit (s := S3x512x1152) ![0, 0, 0] S1x512x1152.size inb_S3x512x1152_S1x512x1152_0_0_0
abbrev aR1 : Rect S3x512x1152 := Rect.unit (s := S3x512x1152) ![1, 0, 0] S1x512x1152.size inb_S3x512x1152_S1x512x1152_1_0_0
abbrev aR2 : Rect S3x512x1152 := Rect.unit (s := S3x512x1152) ![2, 0, 0] S1x512x1152.size inb_S3x512x1152_S1x512x1152_2_0_0
abbrev zR0 : Rect S4x512x896 := Rect.unit (s := S4x512x896) ![0, 0, 0] S1x512x896.size inb_S4x512x896_S1x512x896_0_0_0
abbrev zR1 : Rect S4x512x896 := Rect.unit (s := S4x512x896) ![1, 0, 0] S1x512x896.size inb_S4x512x896_S1x512x896_1_0_0
abbrev zR2 : Rect S4x512x896 := Rect.unit (s := S4x512x896) ![2, 0, 0] S1x512x896.size inb_S4x512x896_S1x512x896_2_0_0
abbrev zR3 : Rect S4x512x896 := Rect.unit (s := S4x512x896) ![3, 0, 0] S1x512x896.size inb_S4x512x896_S1x512x896_3_0_0
abbrev pR0 : Rect S3x512x512 := Rect.unit (s := S3x512x512) ![0, 0, 0] S1x512x512.size inb_S3x512x512_S1x512x512_0_0_0
abbrev pR1 : Rect S3x512x512 := Rect.unit (s := S3x512x512) ![1, 0, 0] S1x512x512.size inb_S3x512x512_S1x512x512_1_0_0
abbrev pR2 : Rect S3x512x512 := Rect.unit (s := S3x512x512) ![2, 0, 0] S1x512x512.size inb_S3x512x512_S1x512x512_2_0_0
abbrev qR0 : Rect S3x512x384 := Rect.unit (s := S3x512x384) ![0, 0, 0] S1x512x384.size inb_S3x512x384_S1x512x384_0_0_0
abbrev qR1 : Rect S3x512x384 := Rect.unit (s := S3x512x384) ![1, 0, 0] S1x512x384.size inb_S3x512x384_S1x512x384_1_0_0
abbrev qR2 : Rect S3x512x384 := Rect.unit (s := S3x512x384) ![2, 0, 0] S1x512x384.size inb_S3x512x384_S1x512x384_2_0_0

/-- A slot of a scratch buffer, as the memref of its slice. -/
abbrev aS0 : Memref sig .tc .vmem S1x512x1152 .f32 := aM.slice aR0 (fun _ => rfl)
abbrev aS1 : Memref sig .tc .vmem S1x512x1152 .f32 := aM.slice aR1 (fun _ => rfl)
abbrev aS2 : Memref sig .tc .vmem S1x512x1152 .f32 := aM.slice aR2 (fun _ => rfl)
abbrev bS0 : Memref sig .tc .vmem S1x512x1152 .f32 := bM.slice aR0 (fun _ => rfl)
abbrev bS1 : Memref sig .tc .vmem S1x512x1152 .f32 := bM.slice aR1 (fun _ => rfl)
abbrev bS2 : Memref sig .tc .vmem S1x512x1152 .f32 := bM.slice aR2 (fun _ => rfl)
abbrev zsS0 : Memref sig .tc .vmem S1x512x896 .f32 := zsM.slice zR0 (fun _ => rfl)
abbrev zsS1 : Memref sig .tc .vmem S1x512x896 .f32 := zsM.slice zR1 (fun _ => rfl)
abbrev zsS2 : Memref sig .tc .vmem S1x512x896 .f32 := zsM.slice zR2 (fun _ => rfl)
abbrev zsS3 : Memref sig .tc .vmem S1x512x896 .f32 := zsM.slice zR3 (fun _ => rfl)
abbrev zrS0 : Memref sig .tc .vmem S1x512x896 .f32 := zrM.slice zR0 (fun _ => rfl)
abbrev zrS1 : Memref sig .tc .vmem S1x512x896 .f32 := zrM.slice zR1 (fun _ => rfl)
abbrev zrS2 : Memref sig .tc .vmem S1x512x896 .f32 := zrM.slice zR2 (fun _ => rfl)
abbrev zrS3 : Memref sig .tc .vmem S1x512x896 .f32 := zrM.slice zR3 (fun _ => rfl)
abbrev pS0 : Memref sig .tc .vmem S1x512x512 .f32 := pM.slice pR0 (fun _ => rfl)
abbrev pS1 : Memref sig .tc .vmem S1x512x512 .f32 := pM.slice pR1 (fun _ => rfl)
abbrev pS2 : Memref sig .tc .vmem S1x512x512 .f32 := pM.slice pR2 (fun _ => rfl)
abbrev qS0 : Memref sig .tc .vmem S1x512x384 .f32 := qM.slice qR0 (fun _ => rfl)
abbrev qS1 : Memref sig .tc .vmem S1x512x384 .f32 := qM.slice qR1 (fun _ => rfl)
abbrev qS2 : Memref sig .tc .vmem S1x512x384 .f32 := qM.slice qR2 (fun _ => rfl)

/-! ## The semaphores -/

/-- An entry of a vector of three or of four semaphores. -/
abbrev at3 (a : DmaSems sig S3) (o : Fin 1 → ℕ) (h : ∀ d, o d + S1.size d ≤ S3.size d) : DmaSem sig :=
  ((a.slice (Rect.unit (s := S3) o S1.size h)).squeeze S_ squeezes_S1_S_).sem
abbrev at4 (a : DmaSems sig S4) (o : Fin 1 → ℕ) (h : ∀ d, o d + S1.size d ≤ S4.size d) : DmaSem sig :=
  ((a.slice (Rect.unit (s := S4) o S1.size h)).squeeze S_ squeezes_S1_S_).sem

/-- The semaphore credited on the device that starts the copy. -/
@[reducible] def sS : Cp → DmaSem sig
  | a0 => at3 cc0_scratch7 ![0] inb_S3_S1_0 | a1 => at3 cc0_scratch7 ![1] inb_S3_S1_1 | a2 => at3 cc0_scratch7 ![2] inb_S3_S1_2
  | b0 => at3 cc0_scratch9 ![0] inb_S3_S1_0 | b1 => at3 cc0_scratch9 ![1] inb_S3_S1_1 | b2 => at3 cc0_scratch9 ![2] inb_S3_S1_2
  | z0 => at4 cc0_scratch13 ![0] inb_S4_S1_0 | z1 => at4 cc0_scratch13 ![1] inb_S4_S1_1
  | z2 => at4 cc0_scratch13 ![2] inb_S4_S1_2 | z3 => at4 cc0_scratch13 ![3] inb_S4_S1_3
  | y => (cc0_scratch11 : DmaSems sig S_).sem
  | p0 => at3 cc0_scratch15 ![0] inb_S3_S1_0 | p1 => at3 cc0_scratch15 ![1] inb_S3_S1_1 | p2 => at3 cc0_scratch15 ![2] inb_S3_S1_2
  | q0 => at3 cc0_scratch17 ![0] inb_S3_S1_0 | q1 => at3 cc0_scratch17 ![1] inb_S3_S1_1 | q2 => at3 cc0_scratch17 ![2] inb_S3_S1_2

/-- The semaphore credited on the device the copy lands on. -/
@[reducible] def rS : Cp → DmaSem sig
  | a0 => at3 cc0_scratch8 ![1] inb_S3_S1_1 | a1 => at3 cc0_scratch8 ![2] inb_S3_S1_2 | a2 => at3 cc0_scratch8 ![0] inb_S3_S1_0
  | b0 => at3 cc0_scratch10 ![1] inb_S3_S1_1 | b1 => at3 cc0_scratch10 ![2] inb_S3_S1_2 | b2 => at3 cc0_scratch10 ![0] inb_S3_S1_0
  | z0 => at4 cc0_scratch14 ![0] inb_S4_S1_0 | z1 => at4 cc0_scratch14 ![1] inb_S4_S1_1
  | z2 => at4 cc0_scratch14 ![2] inb_S4_S1_2 | z3 => at4 cc0_scratch14 ![3] inb_S4_S1_3
  | y => (cc0_scratch12 : DmaSems sig S_).sem
  | p0 => at3 cc0_scratch16 ![1] inb_S3_S1_1 | p1 => at3 cc0_scratch16 ![2] inb_S3_S1_2 | p2 => at3 cc0_scratch16 ![0] inb_S3_S1_0
  | q0 => at3 cc0_scratch18 ![1] inb_S3_S1_1 | q1 => at3 cc0_scratch18 ![2] inb_S3_S1_2 | q2 => at3 cc0_scratch18 ![0] inb_S3_S1_0

/-- The barrier semaphore. -/
abbrev barS : Sem sig := (SemArray.scalar (sig.barrier 0 rfl) : Sems sig S_).sem

/-- The semaphores of one device that the protocol runs on. -/
inductive Cell | bar | snd (i : Cp) | rcv (i : Cp)
  deriving DecidableEq

instance : Fintype Cell :=
  ⟨insert .bar (Finset.univ.image .snd ∪ Finset.univ.image .rcv), by intro x; cases x <;> simp⟩

@[reducible] def csem : Cell → SemLoc sig
  | .bar => .reg barS
  | .snd i => .dma (sS i)
  | .rcv i => .dma (rS i)

abbrev gcell (x : Cell) (c : Dev nD) : GSem nD τ sig := ((c : Thread nD τ), csem x)

theorem csem_injective : Function.Injective csem := by
  have h : ∀ x x' : Cell, csem x = csem x' → x = x' := by decide +kernel
  exact fun x x' => h x x'

/-- What a copy credits on each of its two semaphores. -/
def amt : Cp → ℕ
  | a0 | a1 | a2 | b0 | b1 | b2 | y => (yM : Memref sig .tc .vmem S512x1152 .f32).view.dmaCredit
  | z0 | z1 | z2 | z3 => (zrS0.squeeze S512x896 squeezes_S1x512x896_S512x896 : Memref sig .tc .vmem S512x896 .f32).view.dmaCredit
  | p0 | p1 | p2 => (pS0.squeeze S512x512 squeezes_S1x512x512_S512x512 : Memref sig .tc .vmem S512x512 .f32).view.dmaCredit
  | q0 | q1 | q2 => (qS0.squeeze S512x384 squeezes_S1x512x384_S512x384 : Memref sig .tc .vmem S512x384 .f32).view.dmaCredit

theorem amt_pos (i : Cp) : 0 < amt i := by cases i <;> exact View.dmaCredit_pos _ (by decide)

end Cert.KernelIdeal.Run

end
-- ==== Proof.KernelIdeal.Protocol.lean ====
/-
# The protocol: what each buffer holds when, who may touch it when, and who owes what

The barrier hands each of the three neighbours the buffers its copies land in: the left one the slots 1 and 2 of the
rings to the right, the right one the slots 1 and 2 of the rings to the left, the partner the exchange buffers. The
last copy of a ring lands in slot 0, the slot the first copy was sent from. Slot 0 of a ring is handed to the neighbour
together with the second copy of the ring in the other direction, which a device starts after both its first
copies have been read out.
-/
module

public import proofs.«01_k».proof.Proof.KernelIdeal.Cells

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Contents -/

section Contents

/-- The columns of `x` and the rows of `w` a device holds. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- 512 rows of `x` from the row an offset names. -/
abbrev xRows (c : Dev nD) (o : Fin 2 → ℕ) (h : ∀ a, o a + S512x512.size a ≤ S4096x512.size a) : Vec F S512x512 .f32 :=
  xM.view.readAt (Elt F) (Rect.unit (s := S4096x512) o S512x512.size h).toLoadRect (xstg m ρ c)

/-! The rows of `x` at the places where the kernel reads them. -/
abbrev x11 (c : Dev nD) := xRows m ρ c (k0_off1 c 1#32) (k0_off1_inb c 0)
abbrev x12 (c : Dev nD) := xRows m ρ c (k0_off1 c 2#32) (k0_off1_inb c 1)
abbrev x13 (c : Dev nD) := xRows m ρ c (k0_off1 c 3#32) (k0_off1_inb c 2)
abbrev x21 (c : Dev nD) := xRows m ρ c (k0_off2 c 1#32) (k0_off2_inb c 0)
abbrev x22 (c : Dev nD) := xRows m ρ c (k0_off2 c 2#32) (k0_off2_inb c 1)
abbrev x23 (c : Dev nD) := xRows m ρ c (k0_off2 c 3#32) (k0_off2_inb c 2)
abbrev x3 (c : Dev nD) := xRows m ρ c (k0_off3 c) (k0_off3_inb c)
abbrev x40 (c : Dev nD) := xRows m ρ c (k0_off4 c 0#32) (k0_off4_inb c 0)
abbrev x41 (c : Dev nD) := xRows m ρ c (k0_off4 c 1#32) (k0_off4_inb c 1)
abbrev x42 (c : Dev nD) := xRows m ρ c (k0_off4 c 2#32) (k0_off4_inb c 2)
abbrev x50 (c : Dev nD) := xRows m ρ c (k0_off5 c 0#32) (k0_off5_inb c 0)
abbrev x51 (c : Dev nD) := xRows m ρ c (k0_off5 c 1#32) (k0_off5_inb c 1)
abbrev x52 (c : Dev nD) := xRows m ρ c (k0_off5 c 2#32) (k0_off5_inb c 2)
abbrev x6 (c : Dev nD) := xRows m ρ c (k0_off6 c) (k0_off6_inb c)

/-! The column ranges of `w`: the first 1152, the last 896, and the two parts of those. -/
abbrev wU (c : Dev nD) : Vec F S512x1152 .f32 :=
  wM.view.readAt (Elt F) (Rect.unit (s := S512x2048) ![0, 0] S512x1152.size inb_S512x2048_S512x1152_0_0).toLoadRect (wstg m ρ c)
abbrev wT (c : Dev nD) : Vec F S512x896 .f32 :=
  wM.view.readAt (Elt F) (Rect.unit (s := S512x2048) ![0, 1152] S512x896.size inb_S512x2048_S512x896_0_1152).toLoadRect (wstg m ρ c)
abbrev wA (c : Dev nD) : Vec F S512x512 .f32 :=
  wM.view.readAt (Elt F) (Rect.unit (s := S512x2048) ![0, 1152] S512x512.size inb_S512x2048_S512x512_0_1152).toLoadRect (wstg m ρ c)
abbrev wB (c : Dev nD) : Vec F S512x384 .f32 :=
  wM.view.readAt (Elt F) (Rect.unit (s := S512x2048) ![0, 1664] S512x384.size inb_S512x2048_S512x384_0_1664).toLoadRect (wstg m ρ c)

/-! What the slots hold: first ring to the right, to the left. -/
abbrev vA0 (c : Dev nD) : Vec F S1x512x1152 .f32 := k0_pay1 (x13 m ρ c) (wU m ρ c)
abbrev vA1 (c : Dev nD) : Vec F S1x512x1152 .f32 :=
  k0_pay12 (k0_pay9 (vA0 m ρ (left c))) (k0_pay10 (x40 m ρ c)) (k0_pay11 (wU m ρ c)) (constant S512x1152 .f32 0x00000000#32)
abbrev vA2 (c : Dev nD) : Vec F S1x512x1152 .f32 := k0_pay17 (k0_pay15 (vA1 m ρ (left c))) (k0_pay16 (x41 m ρ c)) (wU m ρ c)
abbrev vA3 (c : Dev nD) : Vec F S1x512x1152 .f32 := k0_pay22 (k0_pay20 (vA2 m ρ (left c))) (k0_pay21 (x42 m ρ c)) (wU m ρ c)
abbrev vB0 (c : Dev nD) : Vec F S1x512x1152 .f32 := k0_pay2 (x21 m ρ c) (wU m ρ c)
abbrev vB1 (c : Dev nD) : Vec F S1x512x1152 .f32 := k0_pay14 (k0_pay13 (vB0 m ρ (right c))) (x50 m ρ c) (wU m ρ c)
abbrev vB2 (c : Dev nD) : Vec F S1x512x1152 .f32 := k0_pay19 (k0_pay18 (vB1 m ρ (right c))) (x51 m ρ c) (wU m ρ c)
abbrev vB3 (c : Dev nD) : Vec F S1x512x1152 .f32 := k0_pay24 (k0_pay23 (vB2 m ρ (right c))) (x52 m ρ c) (wU m ρ c)
/-- What the partner gets of the ring to the left. -/
abbrev vY (c : Dev nD) : Vec F S512x1152 .f32 := shapeCast S512x1152 (vB3 m ρ c) shapeCasts_S1x512x1152_S512x1152

/-! The exchanged blocks, and the two column ranges read of one. -/
abbrev vZ0 (c : Dev nD) : Vec F S1x512x896 .f32 := k0_pay3 (x23 m ρ c) (wT m ρ c)
abbrev vZ1 (c : Dev nD) : Vec F S1x512x896 .f32 := k0_pay6 (k0_pay4 (x21 m ρ c)) (k0_pay5 (wT m ρ c))
abbrev vZ2 (c : Dev nD) : Vec F S1x512x896 .f32 := k0_pay7 (x22 m ρ c) (wT m ρ c)
abbrev vZ3 (c : Dev nD) : Vec F S1x512x896 .f32 := k0_pay8 (x3 m ρ c) (wT m ρ c)

abbrev cutA : Rect S1x512x896 := Rect.unit (s := S1x512x896) ![0, 0, 0] S1x512x512.size (by decide)
abbrev cutB : Rect S1x512x896 := Rect.unit (s := S1x512x896) ![0, 0, 512] S1x512x384.size (by decide)
abbrev colA (v : Vec F S1x512x896 .f32) : Vec F S1x512x512 .f32 := fun j => v (cutA.emb j)
abbrev colB (v : Vec F S1x512x896 .f32) : Vec F S1x512x384 .f32 := fun j => v (cutB.emb j)

/-! The second ring, to the right and to the left. -/
abbrev vP0 (c : Dev nD) : Vec F S1x512x512 .f32 := k0_pay25 (x13 m ρ c) (wA m ρ c) (colA (vZ0 m ρ (across c)))
abbrev vP1 (c : Dev nD) : Vec F S1x512x512 .f32 := k0_pay27 (vP0 m ρ (left c)) (x12 m ρ c) (wA m ρ c) (colA (vZ2 m ρ (across c)))
abbrev vP2 (c : Dev nD) : Vec F S1x512x512 .f32 := k0_pay29 (vP1 m ρ (left c)) (x11 m ρ c) (wA m ρ c) (colA (vZ1 m ρ (across c)))
abbrev vQ0 (c : Dev nD) : Vec F S1x512x384 .f32 := k0_pay26 (x11 m ρ c) (wB m ρ c) (colB (vZ1 m ρ (across c)))
abbrev vQ1 (c : Dev nD) : Vec F S1x512x384 .f32 := k0_pay28 (vQ0 m ρ (right c)) (x12 m ρ c) (wB m ρ c) (colB (vZ2 m ρ (across c)))
abbrev vQ2 (c : Dev nD) : Vec F S1x512x384 .f32 := k0_pay30 (vQ1 m ρ (right c)) (x13 m ρ c) (wB m ρ c) (colB (vZ0 m ρ (across c)))

/-! The three column ranges of the result. -/
abbrev oU (c : Dev nD) : Vec F S512x1152 .f32 := k0_pay33 (vA3 m ρ c) (vY m ρ (across c))
abbrev oA (c : Dev nD) : Vec F S512x512 .f32 := k0_pay31 (vP2 m ρ (left c)) (x6 m ρ c) (wA m ρ c) (colA (vZ3 m ρ (across c)))
abbrev oB (c : Dev nD) : Vec F S512x384 .f32 := k0_pay32 (vQ2 m ρ (right c)) (x6 m ρ c) (wB m ρ c) (colB (vZ3 m ρ (across c)))

end Contents

/-! ## What changes hands -/

/-- A buffer or a slot of one on device `c`, holding `v`; holding anything. -/
abbrev held (c : Dev nD) {s : Shape} (M : Memref sig .tc .vmem s .f32) (v : Vec F s .f32) : sProp 𝕄 := owns (c : Thread nD τ) M fullShare v
def any (c : Dev nD) {s : Shape} (M : Memref sig .tc .vmem s .f32) : sProp 𝕄 := iprop(∃ v, held (F := F) c M v)

instance any_storable (c : Dev nD) {s : Shape} (M : Memref sig .tc .vmem s .f32) : BI.Storable (upEmb : UEmb _ 𝕄) (any (F := F) c M) := by
  unfold any; infer_instance

omit [FloatOps F] in
theorem held_any (c : Dev nD) {s : Shape} (M : Memref sig .tc .vmem s .f32) (v : Vec F s .f32) : held c M v ⊢ any c M := by
  unfold any; iintro H; iexists v; iexact H

/-- What comes back when a copy of `c` has been read out: the slot it was read from. -/
@[reducible] def sndPay (c : Dev nD) : Cp → sProp 𝕄
  | a0 => any c aS0 | a1 => any c aS1 | a2 => any c aS2
  | b0 => any c bS0 | b1 => any c bS1 | b2 => any c bS2 | y => any c bS0
  | z0 => any c zsS0 | z1 => any c zsS1 | z2 => any c zsS2 | z3 => any c zsS3
  | p0 => any c pS0 | p1 => any c pS1 | p2 => any c pS2
  | q0 => any c qS0 | q1 => any c qS1 | q2 => any c qS2

/-- What a copy that landed on `c` brings: the slot it landed in and what it holds; with the second copy of a ring
    slot 0 of the sender's other ring. -/
@[reducible] def rcvPay (c : Dev nD) : Cp → sProp 𝕄
  | a0 => held c aS1 (vA0 m ρ (left c)) | a1 => iprop(held c aS2 (vA1 m ρ (left c)) ∗ any (left c) bS0) | a2 => held c aS0 (vA2 m ρ (left c))
  | b0 => held c bS1 (vB0 m ρ (right c)) | b1 => iprop(held c bS2 (vB1 m ρ (right c)) ∗ any (right c) aS0) | b2 => held c bS0 (vB2 m ρ (right c))
  | y => held c yM (vY m ρ (across c))
  | z0 => held c zrS0 (vZ0 m ρ (across c)) | z1 => held c zrS1 (vZ1 m ρ (across c))
  | z2 => held c zrS2 (vZ2 m ρ (across c)) | z3 => held c zrS3 (vZ3 m ρ (across c))
  | p0 => held c pS1 (vP0 m ρ (left c)) | p1 => iprop(held c pS2 (vP1 m ρ (left c)) ∗ any (left c) qS0) | p2 => held c pS0 (vP2 m ρ (left c))
  | q0 => held c qS1 (vQ0 m ρ (right c)) | q1 => iprop(held c qS2 (vQ1 m ρ (right c)) ∗ any (right c) pS0) | q2 => held c qS0 (vQ2 m ρ (right c))

/-- What the three signals to `c`'s barrier bring: from the left, from the right, from the partner. -/
abbrev lendL (c : Dev nD) : sProp 𝕄 := iprop(any c bS1 ∗ any c bS2 ∗ any c qS1 ∗ any c qS2)
abbrev lendR (c : Dev nD) : sProp 𝕄 := iprop(any c aS1 ∗ any c aS2 ∗ any c pS1 ∗ any c pS2)
abbrev lendX (c : Dev nD) : sProp 𝕄 := iprop(any c zrS0 ∗ any c zrS1 ∗ any c zrS2 ∗ any c zrS3 ∗ any c yM)
def barPay (c : Dev nD) : Fin 3 → sProp 𝕄
  | 0 => lendL (left c)
  | 1 => lendR (right c)
  | 2 => lendX (across c)

/-! ## The schedule -/

/-- The protocol's name of a semaphore, if it is one of its own. -/
def find (s : SemLoc sig) : Option Cell := by
  classical exact if h : ∃ x, csem x = s then some h.choose else none

theorem find_csem (x : Cell) : find (csem x) = some x := by
  unfold find
  have h : ∃ x', csem x' = csem x := ⟨x, rfl⟩
  rw [dif_pos h]; exact congrArg some (csem_injective h.choose_spec)

theorem find_none {s : SemLoc sig} (h : ∀ x, csem x ≠ s) : find s = none := by
  unfold find; exact dif_neg fun ⟨x, hx⟩ => h x hx

def cellDuties : Cell → Finset (Fin 3)
  | .bar => Finset.univ
  | .snd _ => {0}
  | .rcv _ => {0}
def cellAmt : Cell → ℕ
  | .bar => 1
  | .snd i => amt i
  | .rcv i => amt i
def cellPay (c : Dev nD) (d : Fin 3) : Cell → sProp 𝕄
  | .bar => barPay c d
  | .snd i => sndPay c i
  | .rcv i => rcvPay m ρ c i

theorem cellAmt_pos (x : Cell) : 0 < cellAmt x := by
  cases x
  · exact Nat.one_pos
  · exact amt_pos _
  · exact amt_pos _

instance cellPay_storable (c : Dev nD) (d : Fin 3) (x : Cell) : BI.Storable (upEmb : UEmb _ 𝕄) (cellPay (F := F) m ρ c d x) := by
  cases x with
  | bar => fin_cases d <;> (simp only [cellPay, barPay, lendL, lendR, lendX]; infer_instance)
  | snd i => cases i <;> (simp only [cellPay, sndPay]; infer_instance)
  | rcv i => cases i <;> (simp only [cellPay, rcvPay]; infer_instance)

def Rd : Rounds.Schedule (GSem nD τ sig) (Fin 3) 𝕄 where
  duties g r := if r = 0 ∧ g.1.2 = .tc then (find g.2).elim ∅ cellDuties else ∅
  unitless _ := False
  amount g _ _ := (find g.2).elim 1 cellAmt
  payload g _ d := (find g.2).elim iprop(emp) (cellPay m ρ g.1.1 d)
  amount_pos g _ _ _ := by
    cases h : find g.2 with
    | none => exact Nat.one_pos
    | some x => exact cellAmt_pos x

instance Rd_payload_storable (g : GSem nD τ sig) (r : ℕ) (d : Fin 3) : BI.Storable (upEmb : UEmb _ 𝕄) ((Rd (F := F) m ρ).payload g r d) := by
  show BI.Storable upEmb ((find g.2).elim iprop(emp) (cellPay m ρ g.1.1 d))
  cases find g.2 with
  | none => show BI.Storable upEmb iprop(emp); infer_instance
  | some x => exact cellPay_storable m ρ g.1.1 d x

section Sched

variable (x : Cell) (c : Dev nD) (d : Fin 3)

theorem duties_cell : (Rd (F := F) m ρ).duties (gcell x c) 0 = cellDuties x := by
  dsimp only [Rd]; rw [if_pos ⟨rfl, rfl⟩, find_csem]; rfl
theorem duties_later (g : GSem nD τ sig) : ∀ r, 1 ≤ r → (Rd (F := F) m ρ).duties g r = ∅ :=
  fun r hr => by dsimp only [Rd]; exact if_neg fun h => by omega
theorem amount_cell : (Rd (F := F) m ρ).amount (gcell x c) 0 d = cellAmt x := by dsimp only [Rd]; rw [find_csem]; rfl
theorem payload_cell : (Rd (F := F) m ρ).payload (gcell x c) 0 d = cellPay m ρ c d x := by dsimp only [Rd]; rw [find_csem]; rfl

/-- The units a cell waits for. -/
def cellExpect : Cell → ℕ
  | .bar => 3
  | .snd i => amt i
  | .rcv i => amt i
theorem expect_cell : (Rd (F := F) m ρ).expect (gcell x c) 0 = cellExpect x := by
  unfold Schedule.expect Schedule.amountOf
  rw [duties_cell, Finset.sum_congr rfl fun d _ => amount_cell m ρ x c d]
  cases x
  · rfl
  · exact Finset.sum_singleton _ _
  · exact Finset.sum_singleton _ _

/-- What a device has of a cell after its wait. -/
def cellGain (c : Dev nD) : Cell → sProp 𝕄
  | .bar => iprop(lendL (left c) ∗ lendR (right c) ∗ lendX (across c))
  | .snd i => sndPay c i
  | .rcv i => rcvPay m ρ c i
theorem rest_cell : bigSep ((Rd (F := F) m ρ).duties (gcell x c) 0 \ ∅) (fun d => (Rd (F := F) m ρ).payload (gcell x c) 0 d) = cellGain m ρ c x := by
  rw [Finset.sdiff_empty, duties_cell, bigSep_congr fun d _ => payload_cell m ρ x c d]
  cases x
  · exact bigSep_univ_eq_bigSepL ([0, 1, 2] : List (Fin 3)) (by decide) (by decide) _
  · exact bigSep_singleton
  · exact bigSep_singleton

end Sched

/-! ## What a device owes -/

/-- A device owes three signals and seventeen copies. -/
abbrev Due := Fin 3 ⊕ Cp
def dueCell : Due → Cell
  | .inl _ => .bar
  | .inr i => .rcv i
def dueDst : Due → Dev nD → Dev nD
  | .inl 0 => right
  | .inl 1 => left
  | .inl 2 => across
  | .inr i => dst i
def dueTag : Due → Fin 3
  | .inl d => d
  | .inr _ => 0
def dueAmt : Due → ℕ
  | .inl _ => 1
  | .inr i => amt i
def dueLev : Due → ℕ
  | .inl _ => 1
  | .inr i => ord i

abbrev dueTally (c : Dev nD) (e : Due) : CellTallies nD τ sig Unit := tallyAt (gcell (dueCell e) (dueDst e c)) () (dueAmt e)
/-- What is still owed, when the dues of a list are. -/
def oweL (c : Dev nD) : List Due → CellTallies nD τ sig Unit
  | [] => 0
  | e :: l => oweL c l + dueTally c e

/-- All the dues, in the order in which the program meets them. -/
def allDues : List Due :=
  [.inl 0, .inl 1, .inl 2, .inr a0, .inr b0, .inr z0, .inr z1, .inr z2, .inr z3, .inr a1, .inr b1, .inr a2, .inr b2, .inr y,
    .inr p0, .inr q0, .inr p1, .inr q1, .inr p2, .inr q2]
def O₀ (c : Dev nD) : CellTallies nD τ sig Unit := oweL c allDues

theorem oweL_pos (c : Dev nD) (l : List Due) {g : GSem nD τ sig} {u : Unit} (h : 0 < oweL c l g u) :
    ∃ e ∈ l, g = gcell (dueCell e) (dueDst e c) := by
  induction l with
  | nil => exact absurd h (Nat.lt_irrefl 0)
  | cons e l ih =>
    by_cases hg : g = gcell (dueCell e) (dueDst e c)
    · exact ⟨e, List.mem_cons_self, hg⟩
    · unfold oweL at h
      rw [Pi.add_apply, Finsupp.add_apply, tallyAt_apply, if_neg (fun h' => hg h'.1), Nat.add_zero] at h
      obtain ⟨e', he', hg'⟩ := ih h
      exact ⟨e', List.mem_cons_of_mem _ he', hg'⟩

def L (g : GSem nD τ sig) : Finset Unit := if g.1.2 = .tc then {()} else ∅
def cellLev : Cell → ℕ
  | .bar => 1
  | .snd _ => 0
  | .rcv i => ord i
def lv (g : GSem nD τ sig) (_ : Unit) : ℕ := (find g.2).elim 0 cellLev
theorem L_of_ne (g : GSem nD τ sig) (h : g.1.2 ≠ .tc) : L g = ∅ := if_neg h
theorem L_tc (c : Dev nD) (sm : SemLoc sig) : L ((c : Thread nD τ), sm) = {()} := if_pos rfl
theorem lv_cell (x : Cell) (c : Dev nD) (u : Unit) : lv (gcell x c) u = cellLev x := by unfold lv; rw [find_csem]; rfl
theorem lev_due (e : Due) : cellLev (dueCell e) = dueLev e := by rcases e with d | i <;> rfl

/-- A wait at a level below all that is owed. -/
theorem mayWait_of (c : Dev nD) (sm : SemLoc sig) (b : ℕ) (hb : lv ((c : Thread nD τ), sm) () ≤ b) (l : List Due) (hl : ∀ e ∈ l, b < dueLev e) :
    (levAts L lv : sProp 𝕄) ⊢ MayWait (c : Thread nD τ) sm () (oweL c l) :=
  MayOwe.of_cut (L := L) (lev := lv) b
    (fun p hp => by rw [Finset.mem_singleton.mp hp, L_tc]; exact Finset.mem_singleton_self _)
    (fun g u hg => by obtain ⟨e, -, rfl⟩ := oweL_pos c l hg; rw [L_tc]; exact Finset.mem_singleton_self _)
    (fun p hp => by rw [Finset.mem_singleton.mp hp]; exact hb)
    (fun g u hg => by obtain ⟨e, he, rfl⟩ := oweL_pos c l hg; rw [lv_cell, lev_due]; exact hl e he)

theorem mayWait_cell (x : Cell) (c : Dev nD) (l : List Due) (hl : ∀ e ∈ l, cellLev x < dueLev e) :
    (levAts L lv : sProp 𝕄) ⊢ MayWait (c : Thread nD τ) (csem x) () (oweL c l) :=
  mayWait_of c (csem x) (cellLev x) (le_of_eq (lv_cell x c ())) l hl

/-- What the device still owes, whatever it has waited for. -/
def OW (c : Dev nD) (l : List Due) : sProp 𝕄 := iprop(∃ W, owes (c : Thread nD τ) (oweL c l) W)

/-! ## The invariants of all cells -/

abbrev kcell (ck : Dev nD × Cell) : GSem nD τ sig := gcell ck.2 ck.1

def records (K : Dev nD × Cell → ℕ) : sProp 𝕄 :=
  iprop((bigSep Finset.univ fun ck : Dev nD × Cell => cellInv ER (Rd m ρ) (K ck) (kcell ck))
    ∗ bigSep Finset.univ fun ck : Dev nD × Cell => reached ER (kcell ck) 0)

instance records_persistent (K : Dev nD × Cell → ℕ) : BI.Persistent (records m ρ K) := by unfold records; infer_instance

theorem inv_at (K : Dev nD × Cell → ℕ) (x : Cell) (c : Dev nD) :
    records m ρ K ⊢ cellInv ER (Rd m ρ) (K (c, x)) (gcell x c) := by
  unfold records; iintro ⟨H, -⟩
  iapply (show (bigSep Finset.univ fun ck : Dev nD × Cell => (cellInv ER (Rd m ρ) (K ck) (kcell ck) : sProp 𝕄)) ⊢ cellInv ER (Rd m ρ) (K (c, x)) (gcell x c)
    from bigSep_elim (Finset.mem_univ (c, x)))
  iexact H
theorem reached_at (K : Dev nD × Cell → ℕ) (x : Cell) (c : Dev nD) : records m ρ K ⊢ reached ER (gcell x c) 0 := by
  unfold records; iintro ⟨-, H⟩
  iapply (show (bigSep Finset.univ fun ck : Dev nD × Cell => (reached ER (kcell ck) 0 : sProp 𝕄)) ⊢ reached ER (gcell x c) 0
    from bigSep_elim (Finset.mem_univ (c, x)))
  iexact H

end Cert.KernelIdeal.Run

end
-- ==== Proof.KernelIdeal.Rules.lean ====
/-
# One step of the kernel at a time

A signal, the start of a copy, a wait, a load, a load followed by a store, each against the protocol's resources.
-/
module

public import proofs.«01_k».proof.Proof.KernelIdeal.Protocol

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The rest of a program runs on device `c`. -/
def run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_deviceId (c : Dev nD) {α : Type} (k : Dev nD → Prog (TpuEff nD τ sig (Elt F) Λ₀ .tc) α) (Q : α → sProp 𝕄) :
    run c (.op .deviceId k) Q = run c (k c) Q := wp_deviceId 𝒱₀ (c : Thread nD τ) none Set.univ
theorem run_ret (c : Dev nD) {α : Type} (a : α) (Q : α → sProp 𝕄) : Q a ⊢ run (F := F) c (.ret a) Q := by
  show Q a ⊢ iprop(|={Set.univ}=> Q a)
  iintro H
  imodintro; iexact H

/-! ## What a device holds of a cell -/

/-- The right to start copy `i`. -/
def toStart (c : Dev nD) (i : Cp) : sProp 𝕄 :=
  iprop(dutyTok ER (gcell (.snd i) c) 0 0 ∗ dutyTok ER (gcell (.rcv i) (dst i c)) 0 0 ∗ atPos ER (gcell (.snd i) c) 0 ∅ 0)
/-- The right to wait on a cell. -/
def toWait (c : Dev nD) (x : Cell) : sProp 𝕄 :=
  iprop(atPos ER (gcell x c) 0 ∅ 0 ∗ cred (tallyAt (gcell x c) () (cellExpect x)))
/-- What is owed from due number `n` on. -/
def owing (c : Dev nD) (n : ℕ) : sProp 𝕄 := OW c (allDues.drop n)

/-- What all steps share. -/
def env (K : Dev nD × Cell → ℕ) : sProp 𝕄 := iprop(records m ρ K ∗ levAts L lv)
instance env_persistent (K : Dev nD × Cell → ℕ) : BI.Persistent (env m ρ K) := by unfold env; infer_instance

variable (K : Dev nD × Cell → ℕ) (c : Dev nD)

/-! ## Signals and waits -/

/-- What a device's own signals hand over: to the right, to the left, to the partner. -/
@[reducible] def lend (c : Dev nD) : Fin 3 → sProp 𝕄
  | 0 => lendL c
  | 1 => lendR c
  | 2 => lendX c
theorem barPay_dst (d : Fin 3) : barPay (F := F) (dueDst (.inl d) c) d = lend c d := by
  fin_cases d
  · exact congrArg lendL (left_right c)
  · exact congrArg lendR (right_left c)
  · exact congrArg lendX (across_across c)

theorem signal_step (d : Fin 3) (n n' : ℕ) (h : allDues.drop n = .inl d :: allDues.drop n') (e : Dev nD) (he : e = dueDst (.inl d) c)
    {k' : ℕ} (hk : 1 = k') {α : Type} {Q : α → sProp 𝕄} {k : PUnit → Prog (TpuEff nD τ sig (Elt F) Λ₀ .tc) α} :
    env m ρ K ⊢ iprop(owing c n -∗ dutyTok ER (gcell .bar (dueDst (.inl d) c)) 0 d -∗ lend c d -∗ (owing c n' -∗ run c (k ⟨⟩) Q)
      -∗ run c (.op (.semSignal (e : Thread nD τ) barS k') k) Q) := by
  subst he
  unfold owing OW env
  rw [h]
  iintro ⟨#HR, -⟩ ⟨%W, HO⟩ Ht Hp Hk
  unfold run
  iapply (Rounds.wp_signal 𝒱₀ ER (Rd m ρ) (c : Thread nD τ) none (dst := (dueDst (.inl d) c : Thread nD τ)) (r := 0) (d := d) (κ := K (dueDst (.inl d) c, .bar))
      (by rw [show ((dueDst (.inl d) c : Thread nD τ), SemLoc.reg barS) = gcell .bar (dueDst (.inl d) c) from rfl, duties_cell]; exact Finset.mem_univ d)
      ((amount_cell m ρ .bar (dueDst (.inl d) c) d).trans hk) () (oweL c (allDues.drop n')) (by rw [← hk])) $$ [HO Ht Hp]
  · isplitr; · iapply (inv_at m ρ K .bar (dueDst (.inl d) c)); iexact HR
    isplitl [HO]; · iexact HO
    isplitl [Ht]; · iexact Ht
    isplitl [Hp]
    · iapply (show lend (F := F) c d ⊢ (Rd m ρ).payload (gcell .bar (dueDst (.inl d) c)) 0 d
        from Entails.of_eq ((payload_cell m ρ .bar (dueDst (.inl d) c) d).trans (barPay_dst c d)).symm)
      iexact Hp
    · iapply (reached_at m ρ K .bar (dueDst (.inl d) c)); iexact HR
  iintro HO
  iapply Hk
  iexists W; iexact HO

theorem wait_step (x : Cell) (n : ℕ) (hl : ∀ e ∈ allDues.drop n, cellLev x < dueLev e) {k' : ℕ} (hk : k' = cellExpect x)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem x) k' K')
    {α : Type} {Q : α → sProp 𝕄} {k : PUnit → Prog (TpuEff nD τ sig (Elt F) Λ₀ .tc) α} :
    env m ρ K ⊢ iprop(toWait c x -∗ owing c n -∗ (semVal (gcell x c) 0 -∗ cellGain m ρ c x -∗ owing c n -∗ run c (k ⟨⟩) Q)
      -∗ run c (.op w k) Q) := by
  subst hk
  unfold owing OW env toWait
  iintro ⟨#HR, #Hlev⟩ ⟨Hat, Hc⟩ ⟨%W, HO⟩ Hk
  unfold run
  iapply (Rounds.wp_wait_rest_token 𝒱₀ ER (Rd m ρ) (c : Thread nD τ) none (κ := K (c, x)) hw (Set.mem_univ _) ()
      (O := oweL c (allDues.drop n)) (W := W) (R := 0) (m := 0) (T := ∅) (by rw [Nat.zero_add]; exact (expect_cell m ρ x c).symm)) $$ [Hc HO Hat]
  · isplitr; · iapply (inv_at m ρ K x c); iexact HR
    isplitl [Hc]; · iexact Hc
    isplitl [HO]; · iexact HO
    isplitr; · iapply (mayWait_cell x c (allDues.drop n) hl); iexact Hlev
    iexact Hat
  iintro ⟨HO, Hat, -, Hpay⟩
  imod (Rounds.cell_close ER (Rd m ρ) (Set.mem_univ (K (c, x))) (fun h => h) (R := 0 + 1) (duties_later m ρ (gcell x c))) $$ [Hat] with Hz
  · isplitr; · iapply (inv_at m ρ K x c); iexact HR
    iexact Hat
  iapply Hk $$ Hz [Hpay]
  · iapply (Entails.of_eq (rest_cell m ρ x c)); iexact Hpay
  iexists _; iexact HO

theorem dueLev_pos (e : Due) : 0 < dueLev e := by
  rcases e with d | i
  · exact Nat.one_pos
  · cases i <;> decide

theorem wait_bar (n : ℕ) (hl : ∀ e ∈ allDues.drop n, 1 < dueLev e) {k' : ℕ} (hk : k' = 3)
    {α : Type} {Q : α → sProp 𝕄} {k : PUnit → Prog (TpuEff nD τ sig (Elt F) Λ₀ .tc) α} :
    env m ρ K ⊢ iprop(toWait c .bar -∗ owing c n
      -∗ (semVal (gcell .bar c) 0 -∗ iprop(lendL (left c) ∗ lendR (right c) ∗ lendX (across c)) -∗ owing c n -∗ run c (k ⟨⟩) Q)
      -∗ run c (.op (.semWait barS k') k) Q) :=
  wait_step m ρ K c .bar n hl hk (wpE_semWait_eq 𝒱₀ (c : Thread nD τ) none Set.univ)

theorem wait_snd (i : Cp) (n : ℕ) {sem : DmaSem sig} {s : Shape} {sp sp' : Space} {src : Memref sig .tc sp s .f32} {dst' : Memref sig .tc sp' s .f32}
    {hsrc : src.view.WordExact} {hdst : dst'.view.WordExact} (hs : sem = sS i) (hk : dst'.view.dmaCredit = amt i)
    {α : Type} {Q : α → sProp 𝕄} {k : PUnit → Prog (TpuEff nD τ sig (Elt F) Λ₀ .tc) α} :
    env m ρ K ⊢ iprop(toWait c (.snd i) -∗ owing c n -∗ (semVal (gcell (.snd i) c) 0 -∗ sndPay c i -∗ owing c n -∗ run c (k ⟨⟩) Q)
      -∗ run c (.op (.waitDma2 sem src dst' hsrc hdst) k) Q) := by
  subst hs
  exact wait_step m ρ K c (.snd i) n (fun e _ => dueLev_pos e) hk (wpE_waitDma2_eq 𝒱₀ (c : Thread nD τ) none Set.univ)

theorem wait_rcv (i : Cp) (n : ℕ) (hl : ∀ e ∈ allDues.drop n, ord i < dueLev e) {sem : DmaSem sig} {s : Shape} {sp sp' : Space}
    {src : Memref sig .tc sp s .f32} {dst' : Memref sig .tc sp' s .f32}
    {hsrc : src.view.WordExact} {hdst : dst'.view.WordExact} (hs : sem = rS i) (hk : dst'.view.dmaCredit = amt i)
    {α : Type} {Q : α → sProp 𝕄} {k : PUnit → Prog (TpuEff nD τ sig (Elt F) Λ₀ .tc) α} :
    env m ρ K ⊢ iprop(toWait c (.rcv i) -∗ owing c n -∗ (semVal (gcell (.rcv i) c) 0 -∗ rcvPay m ρ c i -∗ owing c n -∗ run c (k ⟨⟩) Q)
      -∗ run c (.op (.waitDma2 sem src dst' hsrc hdst) k) Q) := by
  subst hs
  exact wait_step m ρ K c (.rcv i) n hl hk (wpE_waitDma2_eq 𝒱₀ (c : Thread nD τ) none Set.univ)

/-! ## Starting a copy -/

/-- What a copy of `c` brings to the device it lands on. -/
def sentPay (c : Dev nD) : Cp → sProp 𝕄
  | a0 => held (right c) aS1 (vA0 m ρ c) | a1 => iprop(held (right c) aS2 (vA1 m ρ c) ∗ any c bS0) | a2 => held (right c) aS0 (vA2 m ρ c)
  | b0 => held (left c) bS1 (vB0 m ρ c) | b1 => iprop(held (left c) bS2 (vB1 m ρ c) ∗ any c aS0) | b2 => held (left c) bS0 (vB2 m ρ c)
  | y => held (across c) yM (vY m ρ c)
  | z0 => held (across c) zrS0 (vZ0 m ρ c) | z1 => held (across c) zrS1 (vZ1 m ρ c)
  | z2 => held (across c) zrS2 (vZ2 m ρ c) | z3 => held (across c) zrS3 (vZ3 m ρ c)
  | p0 => held (right c) pS1 (vP0 m ρ c) | p1 => iprop(held (right c) pS2 (vP1 m ρ c) ∗ any c qS0) | p2 => held (right c) pS0 (vP2 m ρ c)
  | q0 => held (left c) qS1 (vQ0 m ρ c) | q1 => iprop(held (left c) qS2 (vQ1 m ρ c) ∗ any c pS0) | q2 => held (left c) qS0 (vQ2 m ρ c)

theorem rcvPay_dst (i : Cp) : rcvPay m ρ (dst i c) i = sentPay m ρ c i := by
  cases i <;> simp only [rcvPay, sentPay, dst, left_right, right_left, across_across]

theorem send_step (i : Cp) (n n' : ℕ) (h : allDues.drop n = .inr i :: allDues.drop n') (e : Dev nD) (he : e = dst i c)
    {ssem rsem : DmaSem sig} (hs : ssem = sS i) (hr : rsem = rS i)
    {s : Shape} {src dst' : Memref sig .tc .vmem s .f32} (hN : dst'.view.dmaCredit = amt i)
    {hsc : dst'.view.ref.isScScratch = false} {hsrc : src.view.WordExact} {hdst : dst'.view.WordExact}
    {hsem : DmaTarget.Typed .vmem (.dma rsem) (.remote (Dev.tc e : Thread nD τ) dst' (.dma ssem) hsc)}
    (fs : Buf (Elt F) (src.view.loc (c : Thread nD τ))) (fd : Buf (Elt F) (dst'.view.loc (dst i c : Thread nD τ))) (R : sProp 𝕄)
    (h1 : (src.view.loc (c : Thread nD τ) ↦[src.view.set]{fullShare} fs) ⊢ sndPay c i)
    (h2 : iprop((dst'.view.loc (dst i c : Thread nD τ) ↦[dst'.view.set]{fullShare} (dst'.view.write (Elt F) fd (src.view.read (Elt F) fs) Finset.univ)) ∗ R) ⊢ sentPay m ρ c i)
    {α : Type} {Q : α → sProp 𝕄} {k : PUnit → Prog (TpuEff nD τ sig (Elt F) Λ₀ .tc) α} :
    env m ρ K ⊢ iprop((src.view.loc (c : Thread nD τ) ↦[src.view.set]{fullShare} fs)
      -∗ iprop((dst'.view.loc (dst i c : Thread nD τ) ↦[dst'.view.set]{fullShare} fd) ∗ R) -∗ toStart c i -∗ owing c n
      -∗ (toWait c (.snd i) -∗ owing c n' -∗ run c (k ⟨⟩) Q)
      -∗ run c (.op (.enqueueDma src (.remote (Dev.tc e : Thread nD τ) dst' (.dma ssem) hsc) (.dma rsem) hsrc hdst hsem) k) Q) := by
  subst he hs hr
  unfold owing OW env toStart toWait
  rw [h]
  iintro ⟨#HR, -⟩ Hs Hd ⟨Ht1, Ht2, Hat⟩ ⟨%W, HO⟩ Hk
  unfold run
  iapply (Rounds.wp_send_pointsTo_with 𝒱₀ ER (Rd m ρ) (c : Thread nD τ) none (κ₁ := K (c, .snd i)) (κ₂ := K (dst i c, .rcv i))
      (r₁ := 0) (r₂ := 0) (d₁ := 0) (d₂ := 0) (fs := fs) (fd := fd) (F := R)
      (by rw [show ((c : Thread nD τ), SemLoc.dma (sS i)) = gcell (.snd i) c from rfl, duties_cell]; exact Finset.mem_singleton_self _)
      (by rw [show ((dst i c : Thread nD τ), SemLoc.dma (rS i)) = gcell (.rcv i) (dst i c) from rfl, duties_cell]; exact Finset.mem_singleton_self _)
      () () (amt i) (show dst'.view.amount (.dma (rS i)) = amt i from hN) (amount_cell m ρ (.snd i) c 0) (amount_cell m ρ (.rcv i) (dst i c) 0) (oweL c (allDues.drop n')) rfl (W := W)
      (h1.trans (Entails.of_eq (payload_cell m ρ (.snd i) c 0).symm))
      (h2.trans (Entails.of_eq ((payload_cell m ρ (.rcv i) (dst i c) 0).trans (rcvPay_dst m ρ c i)).symm))) $$ [Hs Hd Ht1 Ht2 HO]
  · isplitr; · iapply (inv_at m ρ K (.snd i) c); iexact HR
    isplitr; · iapply (inv_at m ρ K (.rcv i) (dst i c)); iexact HR
    isplitl [Hs]; · iexact Hs
    isplitl [Hd]; · iexact Hd
    isplitl [HO]; · iexact HO
    isplitl [Ht1]; · iexact Ht1
    isplitr; · iapply (reached_at m ρ K (.snd i) c); iexact HR
    isplitl [Ht2]; · iexact Ht2
    iapply (reached_at m ρ K (.rcv i) (dst i c)); iexact HR
  iintro ⟨Hc, HO⟩
  iapply Hk $$ [Hat Hc]
  · isplitl [Hat]; · iexact Hat
    iexact Hc
  iexists W; iexact HO

/-- A slot written, through its memref without the leading axis, with what another reads through its own, reads what the other reads. -/
theorem read_squeeze_write {t s : Shape} {M N : Memref sig .tc .vmem t .f32} (hq hq' : t.Squeezes s) (fd : M.view.ty.Contents (Elt F)) (fs : N.view.ty.Contents (Elt F)) :
    M.view.read (Elt F) ((M.squeeze s hq).view.write (Elt F) fd ((N.squeeze s hq').view.read (Elt F) fs) Finset.univ) = N.view.read (Elt F) fs := by
  refine (congrArg (M.view.read (Elt F)) (View.write_reshape_univ (v := M.view) hq.numel_eq fd _)).trans ?_
  refine (View.read_write_univ _ _).trans ?_
  funext x
  show N.view.read (Elt F) fs (Shape.reshapeEquiv _ ((Shape.reshapeEquiv _).symm x)) = _
  rw [Equiv.apply_symm_apply]

/-- A copy from slot to slot, with something else handed over. -/
theorem send_slot_with (i : Cp) (n n' : ℕ) (h : allDues.drop n = .inr i :: allDues.drop n') (e : Dev nD) (he : e = dst i c)
    {ssem rsem : DmaSem sig} (hs : ssem = sS i) (hr : rsem = rS i)
    {t s : Shape} {hq hq' : t.Squeezes s} {src dst' : Memref sig .tc .vmem t .f32} (hN : (dst'.squeeze s hq').view.dmaCredit = amt i)
    {hsc : (dst'.squeeze s hq').view.ref.isScScratch = false} {hsrc : (src.squeeze s hq).view.WordExact} {hdst : (dst'.squeeze s hq').view.WordExact}
    {hsem : DmaTarget.Typed .vmem (.dma rsem) (.remote (Dev.tc e : Thread nD τ) (dst'.squeeze s hq') (.dma ssem) hsc)}
    (v : Vec F t .f32) (R : sProp 𝕄) (h1 : any (F := F) c src ⊢ sndPay c i) (h2 : iprop(held (dst i c) dst' v ∗ R) ⊢ sentPay m ρ c i)
    {α : Type} {Q : α → sProp 𝕄} {k : PUnit → Prog (TpuEff nD τ sig (Elt F) Λ₀ .tc) α} :
    env m ρ K ⊢ iprop(held c src v -∗ any (dst i c) dst' -∗ R -∗ toStart c i -∗ owing c n
      -∗ (toWait c (.snd i) -∗ owing c n' -∗ run c (k ⟨⟩) Q)
      -∗ run c (.op (.enqueueDma (src.squeeze s hq) (.remote (Dev.tc e : Thread nD τ) (dst'.squeeze s hq') (.dma ssem) hsc) (.dma rsem) hsrc hdst hsem) k) Q) := by
  unfold any at h1 ⊢
  unfold held owns at h1 h2 ⊢
  iintro HE ⟨%fs, %hfs, Hs⟩ ⟨%vd, %fd, -, Hd⟩ HRd Hst HO Hk
  have e1 : (src.squeeze s hq).view.set = src.view.set := View.set_reshape _ _
  have e2 : (dst'.squeeze s hq').view.set = dst'.view.set := View.set_reshape _ _
  iapply (send_step m ρ K c i n n' h e he hs hr hN fs fd R
    (by
      rw [e1]; refine BIBase.Entails.trans ?_ h1
      iintro H; iexists (src.view.read (Elt F) fs); iexists fs
      isplitr; · ipureintro; rfl
      iexact H)
    (by
      rw [e2]; refine BIBase.Entails.trans (sep_mono_left ?_) h2
      iintro H; iexists _
      isplitr
      rotate_left
      · iexact H
      ipureintro
      rw [← hfs]
      exact read_squeeze_write hq' hq fd fs)) $$ HE [Hs] [Hd HRd] Hst HO Hk
  · rw [e1]; iexact Hs
  · rw [e2]; isplitl [Hd]; · iexact Hd
    iexact HRd

/-- A copy from slot to slot. -/
theorem send_slot (i : Cp) (n n' : ℕ) (h : allDues.drop n = .inr i :: allDues.drop n') (e : Dev nD) (he : e = dst i c)
    {ssem rsem : DmaSem sig} (hs : ssem = sS i) (hr : rsem = rS i)
    {t s : Shape} {hq hq' : t.Squeezes s} {src dst' : Memref sig .tc .vmem t .f32} (hN : (dst'.squeeze s hq').view.dmaCredit = amt i)
    {hsc : (dst'.squeeze s hq').view.ref.isScScratch = false} {hsrc : (src.squeeze s hq).view.WordExact} {hdst : (dst'.squeeze s hq').view.WordExact}
    {hsem : DmaTarget.Typed .vmem (.dma rsem) (.remote (Dev.tc e : Thread nD τ) (dst'.squeeze s hq') (.dma ssem) hsc)}
    (v : Vec F t .f32) (h1 : any (F := F) c src ⊢ sndPay c i) (h2 : held (dst i c) dst' v ⊢ sentPay m ρ c i)
    {α : Type} {Q : α → sProp 𝕄} {k : PUnit → Prog (TpuEff nD τ sig (Elt F) Λ₀ .tc) α} :
    env m ρ K ⊢ iprop(held c src v -∗ any (dst i c) dst' -∗ toStart c i -∗ owing c n
      -∗ (toWait c (.snd i) -∗ owing c n' -∗ run c (k ⟨⟩) Q)
      -∗ run c (.op (.enqueueDma (src.squeeze s hq) (.remote (Dev.tc e : Thread nD τ) (dst'.squeeze s hq') (.dma ssem) hsc) (.dma rsem) hsrc hdst hsem) k) Q) := by
  iintro HE Hs Hd Hst HO Hk
  iapply (send_slot_with m ρ K c i n n' h e he hs hr hN v iprop(emp) h1 (BIBase.Entails.trans (sep_emp_elim) h2)) $$ HE Hs Hd [] Hst HO Hk
  iempintro

/-- The partner's copy of the ring to the left: from a slot to a whole buffer. -/
theorem send_whole (i : Cp) (n n' : ℕ) (h : allDues.drop n = .inr i :: allDues.drop n') (e : Dev nD) (he : e = dst i c)
    {ssem rsem : DmaSem sig} (hs : ssem = sS i) (hr : rsem = rS i)
    {t s : Shape} {hq : t.Squeezes s} {src : Memref sig .tc .vmem t .f32} {dst' : Memref sig .tc .vmem s .f32} (hN : dst'.view.dmaCredit = amt i)
    {hsc : dst'.view.ref.isScScratch = false} {hsrc : (src.squeeze s hq).view.WordExact} {hdst : dst'.view.WordExact}
    {hsem : DmaTarget.Typed .vmem (.dma rsem) (.remote (Dev.tc e : Thread nD τ) dst' (.dma ssem) hsc)}
    (v : Vec F t .f32) (h1 : any (F := F) c src ⊢ sndPay c i) (h2 : held (dst i c) dst' (shapeCast s v hq.numel_eq) ⊢ sentPay m ρ c i)
    {α : Type} {Q : α → sProp 𝕄} {k : PUnit → Prog (TpuEff nD τ sig (Elt F) Λ₀ .tc) α} :
    env m ρ K ⊢ iprop(held c src v -∗ any (dst i c) dst' -∗ toStart c i -∗ owing c n
      -∗ (toWait c (.snd i) -∗ owing c n' -∗ run c (k ⟨⟩) Q)
      -∗ run c (.op (.enqueueDma (src.squeeze s hq) (.remote (Dev.tc e : Thread nD τ) dst' (.dma ssem) hsc) (.dma rsem) hsrc hdst hsem) k) Q) := by
  unfold any at h1 ⊢
  unfold held owns at h1 h2 ⊢
  iintro HE ⟨%fs, %hfs, Hs⟩ ⟨%vd, %fd, -, Hd⟩ Hst HO Hk
  have e1 : (src.squeeze s hq).view.set = src.view.set := View.set_reshape _ _
  iapply (send_step m ρ K c i n n' h e he hs hr hN fs fd iprop(emp)
    (by
      rw [e1]; refine BIBase.Entails.trans ?_ h1
      iintro H; iexists (src.view.read (Elt F) fs); iexists fs
      isplitr; · ipureintro; rfl
      iexact H)
    (by
      refine BIBase.Entails.trans sep_emp_elim (BIBase.Entails.trans ?_ h2)
      iintro H; iexists _
      isplitr
      rotate_left
      · iexact H
      ipureintro
      rw [← hfs]
      exact View.read_write_univ _ _)) $$ HE [Hs] [Hd] Hst HO Hk
  · rw [e1]; iexact Hs
  · isplitl [Hd]; · iexact Hd
    iempintro

/-! ## Loads and stores -/

/-- Where an index of a block lies. -/
theorem unit_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

/-- A rectangle inside a rectangle. -/
theorem cut_emb {n : ℕ} {s₁ s₂ s₃ : Fin n → ℕ} (o₁ o₂ o₃ : Fin n → ℕ) {h₁ : ∀ a, o₁ a + s₁ a ≤ s₃ a} {h₂ : ∀ a, o₂ a + s₂ a ≤ s₁ a} {h₃ : ∀ a, o₃ a + s₂ a ≤ s₃ a}
    (h : ∀ a, o₃ a = o₁ a + o₂ a) (j : (⟨n, s₂⟩ : Shape).Idx) :
    (Rect.unit (s := ⟨n, s₃⟩) o₃ s₂ h₃).emb j = (Rect.unit (s := ⟨n, s₃⟩) o₁ s₁ h₁).emb ((Rect.unit (s := ⟨n, s₁⟩) o₂ s₂ h₂).emb j) := by
  funext a
  refine Fin.ext ((unit_val (s := ⟨n, s₃⟩) o₃ s₂ h₃ j a).trans (Eq.trans ?_ (unit_val (s := ⟨n, s₃⟩) o₁ s₁ h₁ _ a).symm))
  rw [show (((Rect.unit (s := ⟨n, s₁⟩) o₂ s₂ h₂).emb j a : Fin _) : ℕ) = o₂ a + j a from unit_val (s := ⟨n, s₁⟩) o₂ s₂ h₂ j a, h, Nat.add_assoc]

theorem cutA_emb0 (j : S1x512x512.Idx) : (Rect.unit (s := S4x512x896) ![0, 0, 0] S1x512x512.size inb_S4x512x896_S1x512x512_0_0_0).emb j = zR0.emb (cutA.emb j) := cut_emb _ _ _ (by decide) j
theorem cutB_emb0 (j : S1x512x384.Idx) : (Rect.unit (s := S4x512x896) ![0, 0, 512] S1x512x384.size inb_S4x512x896_S1x512x384_0_0_512).emb j = zR0.emb (cutB.emb j) := cut_emb _ _ _ (by decide) j
theorem cutA_emb1 (j : S1x512x512.Idx) : (Rect.unit (s := S4x512x896) ![1, 0, 0] S1x512x512.size inb_S4x512x896_S1x512x512_1_0_0).emb j = zR1.emb (cutA.emb j) := cut_emb _ _ _ (by decide) j
theorem cutB_emb1 (j : S1x512x384.Idx) : (Rect.unit (s := S4x512x896) ![1, 0, 512] S1x512x384.size inb_S4x512x896_S1x512x384_1_0_512).emb j = zR1.emb (cutB.emb j) := cut_emb _ _ _ (by decide) j
theorem cutA_emb2 (j : S1x512x512.Idx) : (Rect.unit (s := S4x512x896) ![2, 0, 0] S1x512x512.size inb_S4x512x896_S1x512x512_2_0_0).emb j = zR2.emb (cutA.emb j) := cut_emb _ _ _ (by decide) j
theorem cutB_emb2 (j : S1x512x384.Idx) : (Rect.unit (s := S4x512x896) ![2, 0, 512] S1x512x384.size inb_S4x512x896_S1x512x384_2_0_512).emb j = zR2.emb (cutB.emb j) := cut_emb _ _ _ (by decide) j
theorem cutA_emb3 (j : S1x512x512.Idx) : (Rect.unit (s := S4x512x896) ![3, 0, 0] S1x512x512.size inb_S4x512x896_S1x512x512_3_0_0).emb j = zR3.emb (cutA.emb j) := cut_emb _ _ _ (by decide) j
theorem cutB_emb3 (j : S1x512x384.Idx) : (Rect.unit (s := S4x512x896) ![3, 0, 512] S1x512x384.size inb_S4x512x896_S1x512x384_3_0_512).emb j = zR3.emb (cutB.emb j) := cut_emb _ _ _ (by decide) j

/-- A load from a buffer held whole. -/
theorem load_whole {s : Shape} {M : Memref sig .tc .vmem s .f32} {r : LoadRect s} {hl : M.view.LoadsAt r} {f : Buf (Elt F) (M.view.loc (c : Thread nD τ))}
    {α : Type} {Q : α → sProp 𝕄} {k : (r.shape.Idx → Elt F .f32) → Prog (TpuEff nD τ sig (Elt F) Λ₀ .tc) α} :
    (M.view.loc (c : Thread nD τ) ↦{fullShare} f)
      ⊢ iprop(((M.view.loc (c : Thread nD τ) ↦{fullShare} f) -∗ run c (k (M.view.readAt (Elt F) r f)) Q) -∗ run c (.op (.load M r hl) k) Q) :=
  wp_load 𝒱₀ (c : Thread nD τ) none Set.univ (m := M) (Finset.subset_univ _)

/-- A load of part of a slot: where the loaded rectangle lies in the slot is `φ`. -/
theorem load_part {s : Shape} {M : Memref sig .tc .vmem s .f32} {r : Rect s} {hr : ∀ a, r.stride a = 1} {r' : Rect s} {hl : M.view.LoadsAt r'.toLoadRect}
    (φ : r'.shape.Idx → r.shape.Idx) (hφ : ∀ j, r'.emb j = r.emb (φ j)) (v : Vec F r.shape .f32)
    (u : r'.shape.Idx → Elt F .f32) (hu : (fun j => v (φ j)) = u)
    {α : Type} {Q : α → sProp 𝕄} {k : (r'.shape.Idx → Elt F .f32) → Prog (TpuEff nD τ sig (Elt F) Λ₀ .tc) α} :
    held c (M.slice r hr) v
      ⊢ iprop((held c (M.slice r hr) v -∗ run c (k u) Q) -∗ run c (.op (.load M r'.toLoadRect hl) k) Q) := by
  subst hu
  unfold held owns
  iintro ⟨%f, %hf, H⟩ Hk
  have e : M.view.readAt (Elt F) r'.toLoadRect f = fun j => v (φ j) := by
    rw [← hf]; funext j
    show M.view.read (Elt F) f (r'.emb j) = M.view.read (Elt F) f (r.emb (φ j))
    rw [hφ]
  unfold run
  iapply (wp_load 𝒱₀ (c : Thread nD τ) none Set.univ (m := M) (S := (M.slice r hr).view.set) (f := f) (r := r'.toLoadRect) (by
      intro p hp
      have hp' : p ∈ (M.view.slice r').set := by rw [View.set_slice]; exact hp
      obtain ⟨j, -, rfl⟩ := Finset.mem_map.mp hp'
      show M.view.emb (r'.emb j) ∈ _
      rw [hφ]
      exact View.emb_mem_set (M.view.slice r) (φ j))) $$ H
  rw [e]
  iintro H
  iapply Hk
  iexists f
  isplitr; · ipureintro; exact hf
  iexact H

/-- A load of a slot. -/
theorem load_slot {s : Shape} {M : Memref sig .tc .vmem s .f32} {r : Rect s} {hr : ∀ a, r.stride a = 1} {hl : M.view.LoadsAt r.toLoadRect} (v : Vec F r.shape .f32)
    {α : Type} {Q : α → sProp 𝕄} {k : (r.shape.Idx → Elt F .f32) → Prog (TpuEff nD τ sig (Elt F) Λ₀ .tc) α} :
    held c (M.slice r hr) v
      ⊢ iprop((held c (M.slice r hr) v -∗ run c (k v) Q) -∗ run c (.op (.load M r.toLoadRect hl) k) Q) :=
  load_part c id (fun _ => rfl) v v rfl

/-- A load of all of a buffer held as a memref. -/
theorem load_held {s : Shape} {M : Memref sig .tc .vmem s .f32} (r' : Rect s) (φ : r'.shape.Idx → s.Idx) (hφ : ∀ j, r'.emb j = φ j) (v : Vec F s .f32)
    (u : r'.shape.Idx → Elt F .f32) (hu : (fun j => v (φ j)) = u)
    {hl : M.view.LoadsAt r'.toLoadRect}
    {α : Type} {Q : α → sProp 𝕄} {k : (r'.shape.Idx → Elt F .f32) → Prog (TpuEff nD τ sig (Elt F) Λ₀ .tc) α} :
    held c M v ⊢ iprop((held c M v -∗ run c (k u) Q) -∗ run c (.op (.load M r'.toLoadRect hl) k) Q) := by
  subst hu
  unfold held owns
  iintro ⟨%f, %hf, H⟩ Hk
  have e : M.view.readAt (Elt F) r'.toLoadRect f = fun j => v (φ j) := by
    rw [← hf]; funext j
    exact congrArg (M.view.read (Elt F) f) (hφ j)
  unfold run
  iapply (wp_load 𝒱₀ (c : Thread nD τ) none Set.univ (m := M) (S := M.view.set) (f := f) (r := r'.toLoadRect) (by
      intro p hp
      have hp' : p ∈ (M.view.slice r').set := by rw [View.set_slice]; exact hp
      obtain ⟨j, -, rfl⟩ := Finset.mem_map.mp hp'
      exact View.emb_mem_set M.view _)) $$ H
  rw [e]
  iintro H
  iapply Hk
  iexists f
  isplitr; · ipureintro; exact hf
  iexact H

abbrev yR : Rect S512x1152 := Rect.unit (s := S512x1152) ![0, 0] S512x1152.size inb_S512x1152_S512x1152_0_0
theorem yR_emb (j : S512x1152.Idx) : yR.emb j = j := by
  funext a; refine Fin.ext ((unit_val _ _ _ j a).trans ?_)
  match a with
  | 0 => exact Nat.zero_add _
  | 1 => exact Nat.zero_add _

/-- A load of a slot that nothing is made of, and a store to it. -/
theorem store_slot {s : Shape} {M : Memref sig .tc .vmem s .f32} {r : Rect s} {hr : ∀ a, r.stride a = 1} {hl : M.view.LoadsAt r.toLoadRect} {w : Vec F r.shape .f32}
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    any c (M.slice r hr)
      ⊢ iprop((held c (M.slice r hr) w -∗ run c (k ⟨⟩) Q)
        -∗ run c (.op (.load M r.toLoadRect hl) fun _ => .op (.store M r w Finset.univ hx hm) k) Q) := by
  unfold any
  iintro ⟨%v, H⟩ Hk
  iapply (load_slot c v) $$ H
  unfold held owns
  iintro ⟨%f, -, H⟩
  unfold run
  iapply (wp_store 𝒱₀ (c : Thread nD τ) none Set.univ (m := M) (r := r) (Mk := Finset.univ) (S := (M.slice r hr).view.set) (f := f) (Finset.Subset.refl _)) $$ H
  iintro H
  iapply Hk
  iexists _
  isplitr
  rotate_left
  · iexact H
  ipureintro
  exact View.read_write_univ _ _

/-- A load that nothing is made of, and a store to a buffer held whole. -/
theorem store_whole {s : Shape} {M : Memref sig .tc .vmem s .f32} {r : Rect s} {hl : M.view.LoadsAt r.toLoadRect} {w : Vec F r.shape .f32}
    {hx : (M.access r).Stores Finset.univ} {hm : (Finset.univ : Finset r.shape.Idx) = Finset.univ ∨ ∀ a, r.stride a = 1} {f : Buf (Elt F) (M.view.loc (c : Thread nD τ))}
    {α : Type} {Q : α → sProp 𝕄} {k : PUnit → Prog (TpuEff nD τ sig (Elt F) Λ₀ .tc) α} :
    (M.view.loc (c : Thread nD τ) ↦{fullShare} f)
      ⊢ iprop(((M.view.loc (c : Thread nD τ) ↦{fullShare} ((M.access r).write (Elt F) f w Finset.univ)) -∗ run c (k ⟨⟩) Q)
        -∗ run c (.op (.load M r.toLoadRect hl) fun _ => .op (.store M r w Finset.univ hx hm) k) Q) := by
  iintro H Hk
  iapply (load_whole c) $$ H
  iintro H
  unfold run
  iapply (wp_store 𝒱₀ (c : Thread nD τ) none Set.univ (m := M) (r := r) (Mk := Finset.univ) (S := Finset.univ) (f := f) (Finset.subset_univ _)) $$ H
  iexact Hk

end Cert.KernelIdeal.Run

end
-- ==== Proof.KernelIdeal.Body.lean ====
/-
# The kernel on one device

The whole body, operation by operation: what a device has before it, what it has after it.
-/
module

public import proofs.«01_k».proof.Proof.KernelIdeal.Rules

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (m : (ℓ : Loc nD τ sig) → Buf (Elt F) ℓ) (ρ : Dev nD → PrngReg)

/-! ## Before and after -/

theorem bigSep_Cp (Φ : Cp → sProp 𝕄) : bigSep Finset.univ Φ
    = iprop(Φ a0 ∗ Φ a1 ∗ Φ a2 ∗ Φ b0 ∗ Φ b1 ∗ Φ b2 ∗ Φ z0 ∗ Φ z1 ∗ Φ z2 ∗ Φ z3 ∗ Φ y ∗ Φ p0 ∗ Φ p1 ∗ Φ p2 ∗ Φ q0 ∗ Φ q1 ∗ Φ q2) :=
  bigSep_univ_eq_bigSepL [a0, a1, a2, b0, b1, b2, z0, z1, z2, z3, y, p0, p1, p2, q0, q1, q2] (by decide) (by decide) Φ

/-- The scratch buffers, slot by slot. -/
def scratch (c : Dev nD) : sProp 𝕄 :=
  iprop((any c aS0 ∗ any c bS0 ∗ any c zsS0 ∗ any c zsS1 ∗ any c zsS2 ∗ any c zsS3 ∗ any c pS0 ∗ any c qS0) ∗ lendL c ∗ lendR c ∗ lendX c)

/-- The tokens for the three signals. -/
def barToks (c : Dev nD) : sProp 𝕄 :=
  iprop(dutyTok ER (gcell .bar (dueDst (.inl 0) c)) 0 0 ∗ dutyTok ER (gcell .bar (dueDst (.inl 1) c)) 0 1 ∗ dutyTok ER (gcell .bar (dueDst (.inl 2) c)) 0 2)

abbrev xPts (c : Dev nD) : sProp 𝕄 := iprop((xM.view.loc (c : Thread nD τ)) ↦{fullShare} xstg m ρ c)
abbrev wPts (c : Dev nD) : sProp 𝕄 := iprop((wM.view.loc (c : Thread nD τ)) ↦{fullShare} wstg m ρ c)
abbrev oPts (c : Dev nD) (f : (cc0_stg2_0 : Ref sig .tc).ty.Contents (Elt F)) : sProp 𝕄 := iprop((oM.view.loc (c : Thread nD τ)) ↦{fullShare} f)

abbrev oRU : Rect S512x2048 := Rect.unit (s := S512x2048) ![0, 0] S512x1152.size inb_S512x2048_S512x1152_0_0
abbrev oRA : Rect S512x2048 := Rect.unit (s := S512x2048) ![0, 1152] S512x512.size inb_S512x2048_S512x512_0_1152
abbrev oRB : Rect S512x2048 := Rect.unit (s := S512x2048) ![0, 1664] S512x384.size inb_S512x2048_S512x384_0_1664

/-- The result after the three stores, over what was there. -/
abbrev stored (c : Dev nD) (f : (cc0_stg2_0 : Ref sig .tc).ty.Contents (Elt F)) : (cc0_stg2_0 : Ref sig .tc).ty.Contents (Elt F) :=
  (oM.access oRU).write (Elt F) ((oM.access oRB).write (Elt F) ((oM.access oRA).write (Elt F) f (oA m ρ c) Finset.univ) (oB m ρ c) Finset.univ) (oU m ρ c) Finset.univ

def devPre (c : Dev nD) : sProp 𝕄 :=
  iprop(toWait c .bar ∗ barToks c ∗ (bigSep Finset.univ fun i => toStart c i) ∗ (bigSep Finset.univ fun i => toWait c (.rcv i)) ∗ scratch c)
def devPost (c : Dev nD) : sProp 𝕄 :=
  iprop(scratch c ∗ semVal (gcell .bar c) 0 ∗ (bigSep Finset.univ fun i => semVal (gcell (.snd i) c) 0) ∗ (bigSep Finset.univ fun i => semVal (gcell (.rcv i) c) 0))

set_option maxHeartbeats 4000000 in
theorem wp_body (K : Dev nD × Cell → ℕ) (c : Dev nD) (Kt : PUnit → sProp 𝕄) :
    iprop(env m ρ K ∗ devPre c ∗ owing c 0 ∗ xPts m ρ c ∗ wPts m ρ c ∗ ∃ f, oPts c f)
      ⊢ iprop((∀ f, devPost c -∗ owing c 20 -∗ xPts m ρ c -∗ wPts m ρ c -∗ oPts c (stored m ρ c f) -∗ Kt ⟨⟩)
        -∗ run (F := F) c (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scratch17 cc0_scratch18) Kt) := by
  simp -proj only [cc0_body_eq_skeleton, cc0_body_skel]
  simp -proj only [k0_part1_eq_skeleton, k0_part1_skel,
    k0_part2_eq_skeleton, k0_part2_skel,
    k0_part3_eq_skeleton, k0_part3_skel,
    k0_part4_eq_skeleton, k0_part4_skel,
    k0_part5_eq_skeleton, k0_part5_skel,
    k0_part6_eq_skeleton, k0_part6_skel,
    k0_part7_eq_skeleton, k0_part7_skel,
    k0_part8_eq_skeleton, k0_part8_skel,
    k0_part9_eq_skeleton, k0_part9_skel,
    k0_part10_eq_skeleton, k0_part10_skel,
    k0_part11_eq_skeleton, k0_part11_skel,
    k0_part12_eq_skeleton, k0_part12_skel,
    k0_part13_eq_skeleton, k0_part13_skel,
    k0_part14_eq_skeleton, k0_part14_skel,
    k0_part15_eq_skeleton, k0_part15_skel,
    k0_part16_eq_skeleton, k0_part16_skel,
    k0_part17_eq_skeleton, k0_part17_skel,
    k0_part18_eq_skeleton, k0_part18_skel,
    k0_part19_eq_skeleton, k0_part19_skel,
    k0_part20_eq_skeleton, k0_part20_skel,
    k0_part21_eq_skeleton, k0_part21_skel,
    k0_part22_eq_skeleton, k0_part22_skel,
    k0_part23_eq_skeleton, k0_part23_skel,
    k0_part24_eq_skeleton, k0_part24_skel,
    k0_part25_eq_skeleton, k0_part25_skel,
    k0_part26_eq_skeleton, k0_part26_skel,
    k0_part27_eq_skeleton, k0_part27_skel,
    k0_part28_eq_skeleton, k0_part28_skel,
    semSignalWord, semWaitWord, Prog.lift, Prog.bind_op, Prog.bind_ret, Prog.pure_eq_ret, run_deviceId]
  unfold devPre devPost barToks scratch
  simp only [bigSep_Cp]
  iintro ⟨#HE, ⟨HwB, ⟨Ht0, Ht1, Ht2⟩, ⟨Sa0, Sa1, Sa2, Sb0, Sb1, Sb2, Sz0, Sz1, Sz2, Sz3, Sy, Sp0, Sp1, Sp2, Sq0, Sq1, Sq2⟩,
    ⟨Ra0, Ra1, Ra2, Rb0, Rb1, Rb2, Rz0, Rz1, Rz2, Rz3, Ry, Rp0, Rp1, Rp2, Rq0, Rq1, Rq2⟩,
    ⟨⟨Ma0, Mb0, Mz0, Mz1, Mz2, Mz3, Mp0, Mq0⟩, HlL, HlR, HlX⟩⟩, HO, Hx, Hw, ⟨%f0, Ho⟩⟩ Hk
  -- the barrier
  iapply (signal_step m ρ K c 0 0 1 rfl _ (dev1_eq c) (by decide)) $$ HE HO Ht0 HlL; iintro HO
  iapply (signal_step m ρ K c 1 1 2 rfl _ (dev2_eq c) (by decide)) $$ HE HO Ht1 HlR; iintro HO
  iapply (signal_step m ρ K c 2 2 3 rfl _ (dev3_eq c) (by decide)) $$ HE HO Ht2 HlX; iintro HO
  iapply (wait_bar m ρ K c 3 (by decide) (by decide)) $$ HE HwB HO
  iintro Zb ⟨⟨Db1, Db2, Dq1, Dq2⟩, ⟨Da1, Da2, Dp1, Dp2⟩, ⟨Dz0, Dz1, Dz2, Dz3, Dy⟩⟩ HO
  -- the first copies of the first ring, and the exchange
  iapply (load_whole c) $$ Hx; iintro Hx
  iapply (load_whole c) $$ Hw; iintro Hw
  iapply (store_slot c) $$ Ma0; iintro Ma0
  iapply (send_slot (src := aS0) (dst' := aS1) m ρ K c .a0 3 4 rfl _ (dev4_eq c) rfl rfl rfl (vA0 m ρ c) .rfl .rfl) $$ HE Ma0 Da1 Sa0 HO; iintro Wa0 HO
  iapply (load_whole c) $$ Hx; iintro Hx
  iapply (load_whole c) $$ Hw; iintro Hw
  iapply (store_slot c) $$ Mb0; iintro Mb0
  iapply (send_slot (src := bS0) (dst' := bS1) m ρ K c .b0 4 5 rfl _ (dev5_eq c) rfl rfl rfl (vB0 m ρ c) .rfl .rfl) $$ HE Mb0 Db1 Sb0 HO; iintro Wb0 HO
  iapply (load_whole c) $$ Hx; iintro Hx
  iapply (load_whole c) $$ Hw; iintro Hw
  iapply (store_slot c) $$ Mz0; iintro Mz0
  iapply (send_slot (src := zsS0) (dst' := zrS0) m ρ K c .z0 5 6 rfl _ (dev6_eq c) rfl rfl rfl (vZ0 m ρ c) .rfl .rfl) $$ HE Mz0 Dz0 Sz0 HO; iintro Wz0 HO
  iapply (load_whole c) $$ Hx; iintro Hx
  iapply (load_whole c) $$ Hw; iintro Hw
  iapply (store_slot c) $$ Mz1; iintro Mz1
  iapply (send_slot (src := zsS1) (dst' := zrS1) m ρ K c .z1 6 7 rfl _ (dev7_eq c) rfl rfl rfl (vZ1 m ρ c) .rfl .rfl) $$ HE Mz1 Dz1 Sz1 HO; iintro Wz1 HO
  iapply (load_whole c) $$ Hx; iintro Hx
  iapply (load_whole c) $$ Hw; iintro Hw
  iapply (store_slot c) $$ Mz2; iintro Mz2
  iapply (send_slot (src := zsS2) (dst' := zrS2) m ρ K c .z2 7 8 rfl _ (dev8_eq c) rfl rfl rfl (vZ2 m ρ c) .rfl .rfl) $$ HE Mz2 Dz2 Sz2 HO; iintro Wz2 HO
  iapply (load_whole c) $$ Hx; iintro Hx
  iapply (load_whole c) $$ Hw; iintro Hw
  iapply (store_slot c) $$ Mz3; iintro Mz3
  iapply (send_slot (src := zsS3) (dst' := zrS3) m ρ K c .z3 8 9 rfl _ (dev9_eq c) rfl rfl rfl (vZ3 m ρ c) .rfl .rfl) $$ HE Mz3 Dz3 Sz3 HO; iintro Wz3 HO
  -- the first ring
  iapply (wait_snd (dst' := (aS0.squeeze S512x1152 squeezes_S1x512x1152_S512x1152)) m ρ K c .a0 9 rfl rfl) $$ HE Wa0 HO; iintro Ea0 Ma0 HO
  iapply (wait_rcv (dst' := (aS1.squeeze S512x1152 squeezes_S1x512x1152_S512x1152)) m ρ K c .a0 9 (by decide) rfl rfl) $$ HE Ra0 HO; iintro Fa0 Ma1 HO
  iapply (load_slot c (vA0 m ρ (left c))) $$ Ma1; iintro Ma1
  iapply (load_whole c) $$ Hx; iintro Hx
  iapply (load_whole c) $$ Hw; iintro Hw
  ihave Ma1 := (held_any c _ _) $$ Ma1
  iapply (store_slot c) $$ Ma1; iintro Ma1
  iapply (wait_snd (dst' := (bS0.squeeze S512x1152 squeezes_S1x512x1152_S512x1152)) m ρ K c .b0 9 rfl rfl) $$ HE Wb0 HO; iintro Eb0 Mb0 HO
  iapply (wait_rcv (dst' := (bS1.squeeze S512x1152 squeezes_S1x512x1152_S512x1152)) m ρ K c .b0 9 (by decide) rfl rfl) $$ HE Rb0 HO; iintro Fb0 Mb1 HO
  iapply (load_slot c (vB0 m ρ (right c))) $$ Mb1; iintro Mb1
  iapply (load_whole c) $$ Hx; iintro Hx
  iapply (load_whole c) $$ Hw; iintro Hw
  ihave Mb1 := (held_any c _ _) $$ Mb1
  iapply (store_slot c) $$ Mb1; iintro Mb1
  iapply (send_slot_with (src := aS1) (dst' := aS2) m ρ K c .a1 9 10 rfl _ (dev10_eq c) rfl rfl rfl (vA1 m ρ c) _ .rfl .rfl) $$ HE Ma1 Da2 Mb0 Sa1 HO; iintro Wa1 HO
  iapply (send_slot_with (src := bS1) (dst' := bS2) m ρ K c .b1 10 11 rfl _ (dev11_eq c) rfl rfl rfl (vB1 m ρ c) _ .rfl .rfl) $$ HE Mb1 Db2 Ma0 Sb1 HO; iintro Wb1 HO
  iapply (wait_snd (dst' := (aS1.squeeze S512x1152 squeezes_S1x512x1152_S512x1152)) m ρ K c .a1 11 rfl rfl) $$ HE Wa1 HO; iintro Ea1 Ma1 HO
  iapply (wait_rcv (dst' := (aS2.squeeze S512x1152 squeezes_S1x512x1152_S512x1152)) m ρ K c .a1 11 (by decide) rfl rfl) $$ HE Ra1 HO; iintro Fa1 ⟨Ma2, Db0⟩ HO
  iapply (load_slot c (vA1 m ρ (left c))) $$ Ma2; iintro Ma2
  iapply (load_whole c) $$ Hx; iintro Hx
  iapply (load_whole c) $$ Hw; iintro Hw
  ihave Ma2 := (held_any c _ _) $$ Ma2
  iapply (store_slot c) $$ Ma2; iintro Ma2
  iapply (wait_snd (dst' := (bS1.squeeze S512x1152 squeezes_S1x512x1152_S512x1152)) m ρ K c .b1 11 rfl rfl) $$ HE Wb1 HO; iintro Eb1 Mb1 HO
  iapply (wait_rcv (dst' := (bS2.squeeze S512x1152 squeezes_S1x512x1152_S512x1152)) m ρ K c .b1 11 (by decide) rfl rfl) $$ HE Rb1 HO; iintro Fb1 ⟨Mb2, Da0⟩ HO
  iapply (load_slot c (vB1 m ρ (right c))) $$ Mb2; iintro Mb2
  iapply (load_whole c) $$ Hx; iintro Hx
  iapply (load_whole c) $$ Hw; iintro Hw
  ihave Mb2 := (held_any c _ _) $$ Mb2
  iapply (store_slot c) $$ Mb2; iintro Mb2
  iapply (send_slot (src := aS2) (dst' := aS0) m ρ K c .a2 11 12 rfl _ (dev12_eq c) rfl rfl rfl (vA2 m ρ c) .rfl .rfl) $$ HE Ma2 Da0 Sa2 HO; iintro Wa2 HO
  iapply (send_slot (src := bS2) (dst' := bS0) m ρ K c .b2 12 13 rfl _ (dev13_eq c) rfl rfl rfl (vB2 m ρ c) .rfl .rfl) $$ HE Mb2 Db0 Sb2 HO; iintro Wb2 HO
  iapply (wait_snd (dst' := (aS2.squeeze S512x1152 squeezes_S1x512x1152_S512x1152)) m ρ K c .a2 13 rfl rfl) $$ HE Wa2 HO; iintro Ea2 Ma2 HO
  iapply (wait_rcv (dst' := (aS0.squeeze S512x1152 squeezes_S1x512x1152_S512x1152)) m ρ K c .a2 13 (by decide) rfl rfl) $$ HE Ra2 HO; iintro Fa2 Ma0 HO
  iapply (load_slot c (vA2 m ρ (left c))) $$ Ma0; iintro Ma0
  iapply (load_whole c) $$ Hx; iintro Hx
  iapply (load_whole c) $$ Hw; iintro Hw
  ihave Ma0 := (held_any c _ _) $$ Ma0
  iapply (store_slot c) $$ Ma0; iintro Ma0
  iapply (wait_snd (dst' := (bS2.squeeze S512x1152 squeezes_S1x512x1152_S512x1152)) m ρ K c .b2 13 rfl rfl) $$ HE Wb2 HO; iintro Eb2 Mb2 HO
  iapply (wait_rcv (dst' := (bS0.squeeze S512x1152 squeezes_S1x512x1152_S512x1152)) m ρ K c .b2 13 (by decide) rfl rfl) $$ HE Rb2 HO; iintro Fb2 Mb0 HO
  iapply (load_slot c (vB2 m ρ (right c))) $$ Mb0; iintro Mb0
  iapply (load_whole c) $$ Hx; iintro Hx
  iapply (load_whole c) $$ Hw; iintro Hw
  ihave Mb0 := (held_any c _ _) $$ Mb0
  iapply (store_slot c) $$ Mb0; iintro Mb0
  iapply (send_whole (src := bS0) (dst' := yM) m ρ K c .y 13 14 rfl _ (dev14_eq c) rfl rfl rfl (vB3 m ρ c) .rfl .rfl) $$ HE Mb0 Dy Sy HO; iintro Wy HO
  -- the first copies of the second ring
  iapply (wait_rcv (dst' := (zrS0.squeeze S512x896 squeezes_S1x512x896_S512x896)) m ρ K c .z0 14 (by decide) rfl rfl) $$ HE Rz0 HO; iintro Fz0 Nz0 HO
  iapply (load_whole c) $$ Hx; iintro Hx
  iapply (load_whole c) $$ Hw; iintro Hw
  iapply (load_part c (r := zR0) cutA.emb (cutA_emb0) (vZ0 m ρ (across c)) (colA (vZ0 m ρ (across c))) rfl) $$ Nz0; iintro Nz0
  iapply (store_slot c) $$ Mp0; iintro Mp0
  iapply (send_slot (src := pS0) (dst' := pS1) m ρ K c .p0 14 15 rfl _ (dev15_eq c) rfl rfl rfl (vP0 m ρ c) .rfl .rfl) $$ HE Mp0 Dp1 Sp0 HO; iintro Wp0 HO
  iapply (wait_rcv (dst' := (zrS1.squeeze S512x896 squeezes_S1x512x896_S512x896)) m ρ K c .z1 15 (by decide) rfl rfl) $$ HE Rz1 HO; iintro Fz1 Nz1 HO
  iapply (load_whole c) $$ Hx; iintro Hx
  iapply (load_whole c) $$ Hw; iintro Hw
  iapply (load_part c (r := zR1) cutB.emb (cutB_emb1) (vZ1 m ρ (across c)) (colB (vZ1 m ρ (across c))) rfl) $$ Nz1; iintro Nz1
  iapply (store_slot c) $$ Mq0; iintro Mq0
  iapply (send_slot (src := qS0) (dst' := qS1) m ρ K c .q0 15 16 rfl _ (dev16_eq c) rfl rfl rfl (vQ0 m ρ c) .rfl .rfl) $$ HE Mq0 Dq1 Sq0 HO; iintro Wq0 HO
  -- the second ring
  iapply (wait_rcv (dst' := (zrS2.squeeze S512x896 squeezes_S1x512x896_S512x896)) m ρ K c .z2 16 (by decide) rfl rfl) $$ HE Rz2 HO; iintro Fz2 Nz2 HO
  iapply (wait_snd (dst' := (pS0.squeeze S512x512 squeezes_S1x512x512_S512x512)) m ρ K c .p0 16 rfl rfl) $$ HE Wp0 HO; iintro Ep0 Mp0 HO
  iapply (wait_rcv (dst' := (pS1.squeeze S512x512 squeezes_S1x512x512_S512x512)) m ρ K c .p0 16 (by decide) rfl rfl) $$ HE Rp0 HO; iintro Fp0 Mp1 HO
  iapply (load_slot c (vP0 m ρ (left c))) $$ Mp1; iintro Mp1
  iapply (load_whole c) $$ Hx; iintro Hx
  iapply (load_whole c) $$ Hw; iintro Hw
  iapply (load_part c (r := zR2) cutA.emb (cutA_emb2) (vZ2 m ρ (across c)) (colA (vZ2 m ρ (across c))) rfl) $$ Nz2; iintro Nz2
  ihave Mp1 := (held_any c _ _) $$ Mp1
  iapply (store_slot c) $$ Mp1; iintro Mp1
  iapply (wait_snd (dst' := (qS0.squeeze S512x384 squeezes_S1x512x384_S512x384)) m ρ K c .q0 16 rfl rfl) $$ HE Wq0 HO; iintro Eq0 Mq0 HO
  iapply (wait_rcv (dst' := (qS1.squeeze S512x384 squeezes_S1x512x384_S512x384)) m ρ K c .q0 16 (by decide) rfl rfl) $$ HE Rq0 HO; iintro Fq0 Mq1 HO
  iapply (load_slot c (vQ0 m ρ (right c))) $$ Mq1; iintro Mq1
  iapply (load_whole c) $$ Hx; iintro Hx
  iapply (load_whole c) $$ Hw; iintro Hw
  iapply (load_part c (r := zR2) cutB.emb (cutB_emb2) (vZ2 m ρ (across c)) (colB (vZ2 m ρ (across c))) rfl) $$ Nz2; iintro Nz2
  ihave Mq1 := (held_any c _ _) $$ Mq1
  iapply (store_slot c) $$ Mq1; iintro Mq1
  iapply (send_slot_with (src := pS1) (dst' := pS2) m ρ K c .p1 16 17 rfl _ (dev17_eq c) rfl rfl rfl (vP1 m ρ c) _ .rfl .rfl) $$ HE Mp1 Dp2 Mq0 Sp1 HO; iintro Wp1 HO
  iapply (send_slot_with (src := qS1) (dst' := qS2) m ρ K c .q1 17 18 rfl _ (dev18_eq c) rfl rfl rfl (vQ1 m ρ c) _ .rfl .rfl) $$ HE Mq1 Dq2 Mp0 Sq1 HO; iintro Wq1 HO
  iapply (wait_snd (dst' := (pS1.squeeze S512x512 squeezes_S1x512x512_S512x512)) m ρ K c .p1 18 rfl rfl) $$ HE Wp1 HO; iintro Ep1 Mp1 HO
  iapply (wait_rcv (dst' := (pS2.squeeze S512x512 squeezes_S1x512x512_S512x512)) m ρ K c .p1 18 (by decide) rfl rfl) $$ HE Rp1 HO; iintro Fp1 ⟨Mp2, Dq0⟩ HO
  iapply (load_slot c (vP1 m ρ (left c))) $$ Mp2; iintro Mp2
  iapply (load_whole c) $$ Hx; iintro Hx
  iapply (load_whole c) $$ Hw; iintro Hw
  iapply (load_part c (r := zR1) cutA.emb (cutA_emb1) (vZ1 m ρ (across c)) (colA (vZ1 m ρ (across c))) rfl) $$ Nz1; iintro Nz1
  ihave Mp2 := (held_any c _ _) $$ Mp2
  iapply (store_slot c) $$ Mp2; iintro Mp2
  iapply (wait_snd (dst' := (qS1.squeeze S512x384 squeezes_S1x512x384_S512x384)) m ρ K c .q1 18 rfl rfl) $$ HE Wq1 HO; iintro Eq1 Mq1 HO
  iapply (wait_rcv (dst' := (qS2.squeeze S512x384 squeezes_S1x512x384_S512x384)) m ρ K c .q1 18 (by decide) rfl rfl) $$ HE Rq1 HO; iintro Fq1 ⟨Mq2, Dp0⟩ HO
  iapply (load_slot c (vQ1 m ρ (right c))) $$ Mq2; iintro Mq2
  iapply (load_whole c) $$ Hx; iintro Hx
  iapply (load_whole c) $$ Hw; iintro Hw
  iapply (load_part c (r := zR0) cutB.emb (cutB_emb0) (vZ0 m ρ (across c)) (colB (vZ0 m ρ (across c))) rfl) $$ Nz0; iintro Nz0
  ihave Mq2 := (held_any c _ _) $$ Mq2
  iapply (store_slot c) $$ Mq2; iintro Mq2
  iapply (send_slot (src := pS2) (dst' := pS0) m ρ K c .p2 18 19 rfl _ (dev19_eq c) rfl rfl rfl (vP2 m ρ c) .rfl .rfl) $$ HE Mp2 Dp0 Sp2 HO; iintro Wp2 HO
  iapply (send_slot (src := qS2) (dst' := qS0) m ρ K c .q2 19 20 rfl _ (dev20_eq c) rfl rfl rfl (vQ2 m ρ c) .rfl .rfl) $$ HE Mq2 Dq0 Sq2 HO; iintro Wq2 HO
  -- the result
  iapply (wait_rcv (dst' := (zrS3.squeeze S512x896 squeezes_S1x512x896_S512x896)) m ρ K c .z3 20 (by decide) rfl rfl) $$ HE Rz3 HO; iintro Fz3 Nz3 HO
  iapply (wait_snd (dst' := (pS2.squeeze S512x512 squeezes_S1x512x512_S512x512)) m ρ K c .p2 20 rfl rfl) $$ HE Wp2 HO; iintro Ep2 Mp2 HO
  iapply (wait_rcv (dst' := (pS0.squeeze S512x512 squeezes_S1x512x512_S512x512)) m ρ K c .p2 20 (by decide) rfl rfl) $$ HE Rp2 HO; iintro Fp2 Mp0 HO
  iapply (load_slot c (vP2 m ρ (left c))) $$ Mp0; iintro Mp0
  iapply (load_whole c) $$ Hx; iintro Hx
  iapply (load_whole c) $$ Hw; iintro Hw
  iapply (load_part c (r := zR3) cutA.emb (cutA_emb3) (vZ3 m ρ (across c)) (colA (vZ3 m ρ (across c))) rfl) $$ Nz3; iintro Nz3
  iapply (store_whole c) $$ Ho; iintro Ho
  iapply (wait_snd (dst' := (qS2.squeeze S512x384 squeezes_S1x512x384_S512x384)) m ρ K c .q2 20 rfl rfl) $$ HE Wq2 HO; iintro Eq2 Mq2 HO
  iapply (wait_rcv (dst' := (qS0.squeeze S512x384 squeezes_S1x512x384_S512x384)) m ρ K c .q2 20 (by decide) rfl rfl) $$ HE Rq2 HO; iintro Fq2 Mq0 HO
  iapply (load_slot c (vQ2 m ρ (right c))) $$ Mq0; iintro Mq0
  iapply (load_whole c) $$ Hx; iintro Hx
  iapply (load_whole c) $$ Hw; iintro Hw
  iapply (load_part c (r := zR3) cutB.emb (cutB_emb3) (vZ3 m ρ (across c)) (colB (vZ3 m ρ (across c))) rfl) $$ Nz3; iintro Nz3
  iapply (store_whole c) $$ Ho; iintro Ho
  iapply (wait_rcv (dst' := yM) m ρ K c .y 20 (by decide) rfl rfl) $$ HE Ry HO; iintro Fy Ny HO
  iapply (load_slot c (vA3 m ρ c)) $$ Ma0; iintro Ma0
  iapply (load_held c yR id yR_emb (vY m ρ (across c)) (vY m ρ (across c)) rfl) $$ Ny; iintro Ny
  iapply (store_whole c) $$ Ho; iintro Ho
  iapply (wait_snd (dst' := (bS0.squeeze S512x1152 squeezes_S1x512x1152_S512x1152)) m ρ K c .y 20 rfl rfl) $$ HE Wy HO; iintro Ey Mb0 HO
  iapply (wait_snd (dst' := (zsS0.squeeze S512x896 squeezes_S1x512x896_S512x896)) m ρ K c .z0 20 rfl rfl) $$ HE Wz0 HO; iintro Ez0 Mz0 HO
  iapply (wait_snd (dst' := (zsS1.squeeze S512x896 squeezes_S1x512x896_S512x896)) m ρ K c .z1 20 rfl rfl) $$ HE Wz1 HO; iintro Ez1 Mz1 HO
  iapply (wait_snd (dst' := (zsS2.squeeze S512x896 squeezes_S1x512x896_S512x896)) m ρ K c .z2 20 rfl rfl) $$ HE Wz2 HO; iintro Ez2 Mz2 HO
  iapply (wait_snd (dst' := (zsS3.squeeze S512x896 squeezes_S1x512x896_S512x896)) m ρ K c .z3 20 rfl rfl) $$ HE Wz3 HO; iintro Ez3 Mz3 HO
  iapply (run_ret c)
  iapply Hk $$ [Ma0 Mb0 Mz0 Mz1 Mz2 Mz3 Mp0 Mq0 Mb1 Mb2 Mq1 Mq2 Ma1 Ma2 Mp1 Mp2 Nz0 Nz1 Nz2 Nz3 Ny Zb Ea0 Ea1 Ea2 Eb0 Eb1 Eb2 Ez0 Ez1 Ez2 Ez3 Ey Ep0 Ep1 Ep2 Eq0 Eq1 Eq2 Fa0 Fa1 Fa2 Fb0 Fb1 Fb2 Fz0 Fz1 Fz2 Fz3 Fy Fp0 Fp1 Fp2 Fq0 Fq1 Fq2] HO Hx Hw Ho
  isplitl [Ma0 Mb0 Mz0 Mz1 Mz2 Mz3 Mp0 Mq0 Mb1 Mb2 Mq1 Mq2 Ma1 Ma2 Mp1 Mp2 Nz0 Nz1 Nz2 Nz3 Ny]
  · isplitl [Ma0 Mb0 Mz0 Mz1 Mz2 Mz3 Mp0 Mq0]
    · isplitl [Ma0]; · iapply (held_any c _ _); iexact Ma0
      isplitl [Mb0]; · iexact Mb0
      isplitl [Mz0]; · iexact Mz0
      isplitl [Mz1]; · iexact Mz1
      isplitl [Mz2]; · iexact Mz2
      isplitl [Mz3]; · iexact Mz3
      isplitl [Mp0]; · iapply (held_any c _ _); iexact Mp0
      iapply (held_any c _ _); iexact Mq0
    isplitl [Mb1 Mb2 Mq1 Mq2]
    · isplitl [Mb1]; · iexact Mb1
      isplitl [Mb2]; · iexact Mb2
      isplitl [Mq1]; · iexact Mq1
      iexact Mq2
    isplitl [Ma1 Ma2 Mp1 Mp2]
    · isplitl [Ma1]; · iexact Ma1
      isplitl [Ma2]; · iexact Ma2
      isplitl [Mp1]; · iexact Mp1
      iexact Mp2
    isplitl [Nz0]; · iapply (held_any c _ _); iexact Nz0
    isplitl [Nz1]; · iapply (held_any c _ _); iexact Nz1
    isplitl [Nz2]; · iapply (held_any c _ _); iexact Nz2
    isplitl [Nz3]; · iapply (held_any c _ _); iexact Nz3
    iapply (held_any c _ _); iexact Ny
  isplitl [Zb]; · iexact Zb
  isplitl [Ea0 Ea1 Ea2 Eb0 Eb1 Eb2 Ez0 Ez1 Ez2 Ez3 Ey Ep0 Ep1 Ep2 Eq0 Eq1 Eq2]
  · isplitl [Ea0]; · iexact Ea0
    isplitl [Ea1]; · iexact Ea1
    isplitl [Ea2]; · iexact Ea2
    isplitl [Eb0]; · iexact Eb0
    isplitl [Eb1]; · iexact Eb1
    isplitl [Eb2]; · iexact Eb2
    isplitl [Ez0]; · iexact Ez0
    isplitl [Ez1]; · iexact Ez1
    isplitl [Ez2]; · iexact Ez2
    isplitl [Ez3]; · iexact Ez3
    isplitl [Ey]; · iexact Ey
    isplitl [Ep0]; · iexact Ep0
    isplitl [Ep1]; · iexact Ep1
    isplitl [Ep2]; · iexact Ep2
    isplitl [Eq0]; · iexact Eq0
    isplitl [Eq1]; · iexact Eq1
    iexact Eq2
  isplitl [Fa0]; · iexact Fa0
  isplitl [Fa1]; · iexact Fa1
  isplitl [Fa2]; · iexact Fa2
  isplitl [Fb0]; · iexact Fb0
  isplitl [Fb1]; · iexact Fb1
  isplitl [Fb2]; · iexact Fb2
  isplitl [Fz0]; · iexact Fz0
  isplitl [Fz1]; · iexact Fz1
  isplitl [Fz2]; · iexact Fz2
  isplitl [Fz3]; · iexact Fz3
  isplitl [Fy]; · iexact Fy
  isplitl [Fp0]; · iexact Fp0
  isplitl [Fp1]; · iexact Fp1
  isplitl [Fp2]; · iexact Fp2
  isplitl [Fq0]; · iexact Fq0
  isplitl [Fq1]; · iexact Fq1
  iexact Fq2

end Cert.KernelIdeal.Run

end
-- ==== Proof.KernelIdeal.Slots.lean ====
/-
# The scratch buffers and their slots

A buffer held whole is held slot by slot, and slots held join to the buffer held whole.
-/
module

public import proofs.«01_k».proof.Proof.KernelIdeal.Body
public import Idealize.ShloMosaic.Lib.Ring

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (m : (ℓ : Loc nD τ sig) → Buf (Elt F) ℓ) (ρ : Dev nD → PrngReg)

/-! ## One buffer -/

theorem any_iff (c : Dev nD) {s : Shape} (M : Memref sig .tc .vmem s .f32) :
    (any (F := F) c M ⊢ iprop(∃ g, M.view.loc (c : Thread nD τ) ↦[M.view.set]{fullShare} g))
      ∧ ((iprop(∃ g, M.view.loc (c : Thread nD τ) ↦[M.view.set]{fullShare} g) : sProp 𝕄) ⊢ any c M) := by
  unfold any held owns
  constructor
  · iintro ⟨%v, %g, -, H⟩; iexists g; iexact H
  · iintro ⟨%g, H⟩; iexists (M.view.read (Elt F) g); iexists g; isplitr
    · ipureintro; rfl
    · iexact H

section Cut

variable {s : Shape} {n : ℕ} (c : Dev nD) (M : Memref sig .tc .vmem s .f32) (hM : M.view.set = Finset.univ) (R : Fin n → Rect s)
  (hr : ∀ k a, (R k).stride a = 1) (hd : ∀ k k', k ≠ k' → Disjoint (R k).set (R k').set) (hc : ∀ i, ∃ k, i ∈ (R k).set)

include hd in
theorem cut_disjoint (k k' : Fin n) (h : k ≠ k') : Disjoint (M.slice (R k) (hr k)).view.set (M.slice (R k') (hr k')).view.set := by
  show Disjoint (M.view.slice (R k)).set (M.view.slice (R k')).set
  rw [View.set_slice, View.set_slice]; exact (Finset.disjoint_map _).mpr (hd k k' h)
include hM hc in
theorem cut_cover : Finset.biUnion (β := M.view.ty.Idx) Finset.univ (fun k : Fin n => (M.slice (R k) (hr k)).view.set) = Finset.univ := by
  refine Finset.eq_univ_iff_forall.mpr fun i => ?_
  have hi : i ∈ M.view.set := hM ▸ Finset.mem_univ i
  obtain ⟨j, -, rfl⟩ := Finset.mem_map.mp hi
  obtain ⟨k, hk⟩ := hc j
  refine Finset.mem_biUnion.mpr ⟨k, Finset.mem_univ k, ?_⟩
  show _ ∈ (M.view.slice (R k)).set
  rw [View.set_slice]; exact Finset.mem_map_of_mem _ hk

/-- The elements of a slot, as elements of the buffer. -/
abbrev cutSet (k : Fin n) : Finset (Idx (M.view.loc (c : Thread nD τ))) := (M.slice (R k) (hr k)).view.set

theorem slot_any (k : Fin n) : any (F := F) c (M.slice (R k) (hr k)) = iprop(∃ f : Buf (Elt F) (M.view.loc (c : Thread nD τ)), M.view.loc (c : Thread nD τ) ↦[cutSet c M R hr k]{fullShare} f) :=
  BI.Entails.antisymm (any_iff c (M.slice (R k) (hr k))).1 (any_iff c (M.slice (R k) (hr k))).2

theorem pts_some (ℓ : Loc nD τ sig) (J : Finset (Idx ℓ)) (f : Buf (Elt F) ℓ) : (ℓ ↦[J]{fullShare} f : sProp 𝕄) ⊢ iprop(∃ f, ℓ ↦[J]{fullShare} f) := by
  iintro H; iexists f; iexact H

include hM hd hc in
theorem cut_split : (iprop(∃ f, M.view.loc (c : Thread nD τ) ↦{fullShare} f) : sProp 𝕄) ⊢ bigSep Finset.univ fun k => any c (M.slice (R k) (hr k)) := by
  rw [bigSep_congr fun k _ => slot_any c M R hr k]
  iintro ⟨%f, H⟩
  iapply (show (bigSep Finset.univ fun k => (M.view.loc (c : Thread nD τ) ↦[cutSet c M R hr k]{fullShare} f : sProp 𝕄))
    ⊢ bigSep Finset.univ fun k => iprop(∃ f : Buf (Elt F) (M.view.loc (c : Thread nD τ)), M.view.loc (c : Thread nD τ) ↦[cutSet c M R hr k]{fullShare} f)
    from bigSep_mono fun k _ => pts_some _ _ f)
  iapply (Entails.of_eq (Ring.pointsTo_blocks (Ix := Unit) (Name := ℕ) (U := UU) (Lvl := ℕ) (q := fullShare) (cutSet c M R hr) (cut_disjoint M R hr hd) (cut_cover M hM R hr hc) f))
  iexact H
include hM hd hc in
theorem cut_join (f₀ : Buf (Elt F) (M.view.loc (c : Thread nD τ))) :
    (bigSep Finset.univ fun k => any (F := F) c (M.slice (R k) (hr k))) ⊢ iprop(∃ f, M.view.loc (c : Thread nD τ) ↦{fullShare} f) := by
  rw [bigSep_congr fun k _ => slot_any c M R hr k]
  exact Ring.pointsTo_blocks_join_exists (Ix := Unit) (Name := ℕ) (U := UU) (Lvl := ℕ) (q := fullShare) (cutSet c M R hr) (cut_disjoint M R hr hd) (cut_cover M hM R hr hc) f₀

end Cut

/-! ## Slots along the first axis -/

/-- The rectangles are the slots of a buffer of rank three. -/
structure Slots {n a b : ℕ} (R : Fin n → Rect ⟨3, ![n, a, b]⟩) : Prop where
  stride : ∀ k d, (R k).stride d = 1
  off : ∀ k, (R k).off = ![k.val, 0, 0]
  size : ∀ k, (R k).size = ![1, a, b]

theorem Slots.mem {n a b : ℕ} {R : Fin n → Rect ⟨3, ![n, a, b]⟩} (h : Slots R) (k : Fin n) (i : Shape.Idx ⟨3, ![n, a, b]⟩) :
    i ∈ (R k).set ↔ (i 0).val = k.val := by
  rw [LoadRect.mem_set]
  have hs := h.size k
  have ho := h.off k
  constructor
  · intro H
    obtain ⟨j, hj, e⟩ := H 0
    rw [hs] at hj; rw [ho, h.stride] at e
    have hj' : j < 1 := hj
    have e' : (i 0).val = k.val + 1 * j := e
    omega
  · intro H d
    rw [hs, ho, h.stride]
    fin_cases d
    · exact ⟨0, Nat.one_pos, H⟩
    · exact ⟨(i 1).val, (i 1).isLt, (show (i 1).val = 0 + 1 * (i 1).val by omega)⟩
    · exact ⟨(i 2).val, (i 2).isLt, (show (i 2).val = 0 + 1 * (i 2).val by omega)⟩

theorem Slots.disjoint {n a b : ℕ} {R : Fin n → Rect ⟨3, ![n, a, b]⟩} (h : Slots R) (k k' : Fin n) (hk : k ≠ k') : Disjoint (R k).set (R k').set :=
  Finset.disjoint_left.mpr fun i hi hi' => hk (Fin.ext (((h.mem k i).mp hi).symm.trans ((h.mem k' i).mp hi')))
theorem Slots.cover {n a b : ℕ} {R : Fin n → Rect ⟨3, ![n, a, b]⟩} (h : Slots R) (i : Shape.Idx ⟨3, ![n, a, b]⟩) : ∃ k, i ∈ (R k).set :=
  ⟨⟨(i 0).val, (i 0).isLt⟩, (h.mem _ i).mpr rfl⟩

theorem slotsA : Slots (n := 3) (a := 512) (b := 1152) ![aR0, aR1, aR2] :=
  ⟨fun k d => by fin_cases k <;> rfl, fun k => by fin_cases k <;> rfl, fun k => by fin_cases k <;> rfl⟩
theorem slotsZ : Slots (n := 4) (a := 512) (b := 896) ![zR0, zR1, zR2, zR3] :=
  ⟨fun k d => by fin_cases k <;> rfl, fun k => by fin_cases k <;> rfl, fun k => by fin_cases k <;> rfl⟩
theorem slotsP : Slots (n := 3) (a := 512) (b := 512) ![pR0, pR1, pR2] :=
  ⟨fun k d => by fin_cases k <;> rfl, fun k => by fin_cases k <;> rfl, fun k => by fin_cases k <;> rfl⟩
theorem slotsQ : Slots (n := 3) (a := 512) (b := 384) ![qR0, qR1, qR2] :=
  ⟨fun k d => by fin_cases k <;> rfl, fun k => by fin_cases k <;> rfl, fun k => by fin_cases k <;> rfl⟩

theorem bigSep_three (Φ : Fin 3 → sProp 𝕄) : bigSep Finset.univ Φ = iprop(Φ 0 ∗ Φ 1 ∗ Φ 2) := bigSep_univ_eq_bigSepL [0, 1, 2] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-! ## All buffers -/

/-- A buffer whole, holding anything. -/
abbrev wholePts (c : Dev nD) {s : Shape} (M : Memref sig .tc .vmem s .f32) : sProp 𝕄 := iprop(∃ f, M.view.loc (c : Thread nD τ) ↦{fullShare} f)

theorem split3 (c : Dev nD) {a b : ℕ} (M : Memref sig .tc .vmem ⟨3, ![3, a, b]⟩ .f32) (hM : M.view.set = Finset.univ) {R : Fin 3 → Rect ⟨3, ![3, a, b]⟩} (h : Slots R) :
    wholePts (F := F) c M ⊢ iprop(any c (M.slice (R 0) (h.stride 0)) ∗ any c (M.slice (R 1) (h.stride 1)) ∗ any c (M.slice (R 2) (h.stride 2))) :=
  BIBase.Entails.trans (cut_split c M hM R h.stride h.disjoint h.cover) (Entails.of_eq (bigSep_three _))
theorem join3 (c : Dev nD) {a b : ℕ} (M : Memref sig .tc .vmem ⟨3, ![3, a, b]⟩ .f32) (hM : M.view.set = Finset.univ) {R : Fin 3 → Rect ⟨3, ![3, a, b]⟩} (h : Slots R)
    (f₀ : Buf (Elt F) (M.view.loc (c : Thread nD τ))) :
    iprop(any c (M.slice (R 0) (h.stride 0)) ∗ any c (M.slice (R 1) (h.stride 1)) ∗ any c (M.slice (R 2) (h.stride 2))) ⊢ wholePts (F := F) c M :=
  BIBase.Entails.trans (Entails.of_eq (bigSep_three fun k => any c (M.slice (R k) (h.stride k))).symm) (cut_join c M hM R h.stride h.disjoint h.cover f₀)
theorem split4 (c : Dev nD) {a b : ℕ} (M : Memref sig .tc .vmem ⟨3, ![4, a, b]⟩ .f32) (hM : M.view.set = Finset.univ) {R : Fin 4 → Rect ⟨3, ![4, a, b]⟩} (h : Slots R) :
    wholePts (F := F) c M ⊢ iprop(any c (M.slice (R 0) (h.stride 0)) ∗ any c (M.slice (R 1) (h.stride 1)) ∗ any c (M.slice (R 2) (h.stride 2)) ∗ any c (M.slice (R 3) (h.stride 3))) :=
  BIBase.Entails.trans (cut_split c M hM R h.stride h.disjoint h.cover) (Entails.of_eq (bigSep_four _))
theorem join4 (c : Dev nD) {a b : ℕ} (M : Memref sig .tc .vmem ⟨3, ![4, a, b]⟩ .f32) (hM : M.view.set = Finset.univ) {R : Fin 4 → Rect ⟨3, ![4, a, b]⟩} (h : Slots R)
    (f₀ : Buf (Elt F) (M.view.loc (c : Thread nD τ))) :
    iprop(any c (M.slice (R 0) (h.stride 0)) ∗ any c (M.slice (R 1) (h.stride 1)) ∗ any c (M.slice (R 2) (h.stride 2)) ∗ any c (M.slice (R 3) (h.stride 3))) ⊢ wholePts (F := F) c M :=
  BIBase.Entails.trans (Entails.of_eq (bigSep_four fun k => any c (M.slice (R k) (h.stride k))).symm) (cut_join c M hM R h.stride h.disjoint h.cover f₀)

/-- The seven buffers whole. -/
def wholes (c : Dev nD) : sProp 𝕄 :=
  iprop(wholePts c aM ∗ wholePts c bM ∗ wholePts c yM ∗ wholePts c zsM ∗ wholePts c zrM ∗ wholePts c pM ∗ wholePts c qM)

theorem wholes_eq (c : Dev nD) : (Pipeline.scopedRest (Ix := Unit) (Name := ℕ) (U := UU) (Lvl := ℕ) (Val := Elt F) cfg0.spec c : sProp 𝕄) = wholes c := scopedRest0_eq c

theorem yM_split (c : Dev nD) : wholePts (F := F) c yM ⊢ any c yM :=
  BIBase.Entails.trans (by rw [show (yM : Memref sig .tc .vmem S512x1152 .f32).view.set = Finset.univ from View.set_whole _]) (any_iff c yM).2
theorem yM_join (c : Dev nD) : any (F := F) c yM ⊢ wholePts c yM :=
  BIBase.Entails.trans (any_iff c yM).1 (by rw [show (yM : Memref sig .tc .vmem S512x1152 .f32).view.set = Finset.univ from View.set_whole _])

theorem scratch_split (c : Dev nD) : wholes (F := F) c ⊢ scratch c := by
  unfold wholes scratch
  iintro ⟨Ha, Hb, Hy, Hs, Hr, Hp, Hq⟩
  ihave Ha := (split3 c aM (View.set_whole _) slotsA) $$ Ha
  ihave Hb := (split3 c bM (View.set_whole _) slotsA) $$ Hb
  ihave Hp := (split3 c pM (View.set_whole _) slotsP) $$ Hp
  ihave Hq := (split3 c qM (View.set_whole _) slotsQ) $$ Hq
  ihave Hs := (split4 c zsM (View.set_whole _) slotsZ) $$ Hs
  ihave Hr := (split4 c zrM (View.set_whole _) slotsZ) $$ Hr
  ihave Hy := (yM_split c) $$ Hy
  icases Ha with ⟨A0, A1, A2⟩
  icases Hb with ⟨B0, B1, B2⟩
  icases Hp with ⟨P0, P1, P2⟩
  icases Hq with ⟨Q0, Q1, Q2⟩
  icases Hs with ⟨S0, S1, S2, S3⟩
  icases Hr with ⟨R0, R1, R2, R3⟩
  isplitl [A0 B0 S0 S1 S2 S3 P0 Q0]
  · isplitl [A0]; · iexact A0
    isplitl [B0]; · iexact B0
    isplitl [S0]; · iexact S0
    isplitl [S1]; · iexact S1
    isplitl [S2]; · iexact S2
    isplitl [S3]; · iexact S3
    isplitl [P0]; · iexact P0
    iexact Q0
  isplitl [B1 B2 Q1 Q2]
  · isplitl [B1]; · iexact B1
    isplitl [B2]; · iexact B2
    isplitl [Q1]; · iexact Q1
    iexact Q2
  isplitl [A1 A2 P1 P2]
  · isplitl [A1]; · iexact A1
    isplitl [A2]; · iexact A2
    isplitl [P1]; · iexact P1
    iexact P2
  isplitl [R0]; · iexact R0
  isplitl [R1]; · iexact R1
  isplitl [R2]; · iexact R2
  isplitl [R3]; · iexact R3
  iexact Hy

/-- Any contents of a buffer, to name one. -/
theorem scratch_join (c : Dev nD) (m : (ℓ : Loc nD τ sig) → Buf (Elt F) ℓ) : scratch (F := F) c ⊢ wholes c := by
  unfold wholes scratch
  iintro ⟨⟨A0, B0, S0, S1, S2, S3, P0, Q0⟩, ⟨B1, B2, Q1, Q2⟩, ⟨A1, A2, P1, P2⟩, R0, R1, R2, R3, Hy⟩
  isplitl [A0 A1 A2]
  · iapply (join3 c aM (View.set_whole _) slotsA (m _))
    isplitl [A0]; · iexact A0
    isplitl [A1]; · iexact A1
    iexact A2
  isplitl [B0 B1 B2]
  · iapply (join3 c bM (View.set_whole _) slotsA (m _))
    isplitl [B0]; · iexact B0
    isplitl [B1]; · iexact B1
    iexact B2
  isplitl [Hy]
  · iapply (yM_join c); iexact Hy
  isplitl [S0 S1 S2 S3]
  · iapply (join4 c zsM (View.set_whole _) slotsZ (m _))
    isplitl [S0]; · iexact S0
    isplitl [S1]; · iexact S1
    isplitl [S2]; · iexact S2
    iexact S3
  isplitl [R0 R1 R2 R3]
  · iapply (join4 c zrM (View.set_whole _) slotsZ (m _))
    isplitl [R0]; · iexact R0
    isplitl [R1]; · iexact R1
    isplitl [R2]; · iexact R2
    iexact R3
  isplitl [P0 P1 P2]
  · iapply (join3 c pM (View.set_whole _) slotsP (m _))
    isplitl [P0]; · iexact P0
    isplitl [P1]; · iexact P1
    iexact P2
  iapply (join3 c qM (View.set_whole _) slotsQ (m _))
  isplitl [Q0]; · iexact Q0
  isplitl [Q1]; · iexact Q1
  iexact Q2

end Cert.KernelIdeal.Run

end
-- ==== Proof.KernelIdeal.Deal.lean ====
/-
# What the launch deals to the devices

Each cell of the protocol starts with its position and its tokens; a token goes to the device that pays it. Each device
is credited with what the others owe to its cells.
-/
module

public import proofs.«01_k».proof.Proof.KernelIdeal.Slots

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cp

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device -/

theorem bigSep_Cell (Φ : Cell → sProp 𝕄) : bigSep Finset.univ Φ
    = iprop(Φ .bar ∗ (bigSep Finset.univ fun i => Φ (.snd i)) ∗ bigSep Finset.univ fun i => Φ (.rcv i)) := by
  show bigSep (insert Cell.bar (Finset.univ.image Cell.snd ∪ Finset.univ.image Cell.rcv)) Φ = _
  rw [bigSep_insert (by decide), bigSep_union (by decide), bigSep_image_of_injOn (fun _ _ _ _ h => Cell.snd.inj h), bigSep_image_of_injOn (fun _ _ _ _ h => Cell.rcv.inj h)]
  rfl

/-- The semaphores of the kernel's own: those of the copies. -/
abbrev osem : Cp ⊕ Cp → SemLoc sig
  | .inl i => csem (.snd i)
  | .inr i => csem (.rcv i)

theorem ownSems0_eq (c : Dev nD) : (Pipeline.ownSems0 (Ix := Unit) (Name := ℕ) (U := UU) (Lvl := ℕ) (Val := Elt F) (τ := τ) osem c : sProp 𝕄)
    = iprop((bigSep Finset.univ fun i => semVal (gcell (.snd i) c) 0) ∗ bigSep Finset.univ fun i => semVal (gcell (.rcv i) c) 0) := by
  unfold Pipeline.ownSems0; exact bigSep_univ_sum _

theorem unscopedSems0_eq (c : Dev nD) : (unscopedSems0 c : sProp 𝕄) = semVal (gcell .bar c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (kcell (c, x)) 0 : sProp 𝕄) := by
  rw [ownSems0_eq, unscopedSems0_eq, bigSep_Cell]
  iintro ⟨⟨HS, HV⟩, HB⟩
  isplitl [HB]; · iexact HB
  isplitl [HS] <;> iassumption

/-! ## Cells and tokens of all devices -/

theorem kcell_injective : Function.Injective (kcell : Dev nD × Cell → GSem nD τ sig) := by
  rintro ⟨c, x⟩ ⟨c', x'⟩ h
  have h1 : c = c' := congrArg (fun g : GSem nD τ sig => g.1.1) h
  have h2 : x = x' := csem_injective (congrArg Prod.snd h)
  rw [h1, h2]

def allCells : Finset (GSem nD τ sig) := Finset.univ.map ⟨kcell, kcell_injective⟩

/-- The tokens of one device's cells: three of the barrier, one of each semaphore of a copy. -/
abbrev Tok := Fin 3 ⊕ (Cp ⊕ Cp)
abbrev tokCell : Tok → Cell
  | .inl _ => .bar
  | .inr (.inl i) => .snd i
  | .inr (.inr i) => .rcv i
abbrev tokTag : Tok → Fin 3
  | .inl d => d
  | .inr _ => 0
abbrev tokOf (ct : Dev nD × Tok) : GSem nD τ sig × ℕ × Fin 3 := (gcell (tokCell ct.2) ct.1, 0, tokTag ct.2)

theorem tokOf_injective : Function.Injective (tokOf : Dev nD × Tok → GSem nD τ sig × ℕ × Fin 3) := by
  rintro ⟨c, t⟩ ⟨c', t'⟩ h
  have h1 : c = c' := congrArg (fun g : GSem nD τ sig × ℕ × Fin 3 => g.1.1.1) h
  have h2 : tokCell t = tokCell t' := csem_injective (congrArg (fun g : GSem nD τ sig × ℕ × Fin 3 => g.1.2) h)
  have h3 : tokTag t = tokTag t' := congrArg (fun g : GSem nD τ sig × ℕ × Fin 3 => g.2.2) h
  have h4 : t = t' := by
    rcases t with d | i | i <;> rcases t' with d' | i' | i' <;> first | exact congrArg Sum.inl h3 | cases h2 <;> rfl
  rw [h1, h4]

def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells. -/
def toks (c : Dev nD) : sProp 𝕄 := bigSep Finset.univ fun t : Tok => dutyTok ER (gcell (tokCell t) c) 0 (tokTag t)

/-- What the launch element deals a device. -/
def G (c : Dev nD) : sProp 𝕄 :=
  iprop((bigSep Finset.univ fun x : Cell => roundState ER (Rd m ρ) (kcell (c, x)) 0)
    ∗ (bigSep Finset.univ fun x : Cell => iprop(atPos ER (kcell (c, x)) 0 ∅ 0 ∗ reached ER (kcell (c, x)) 0)) ∗ toks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (Rd m ρ) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : Cell => semVal (kcell (c, x)) 0) ∗ bigSep Finset.univ fun x : Cell => roundState ER (Rd m ρ) (kcell (c, x)) 0)
      ⊢ (|={Set.univ}=> bigSep Finset.univ fun x => iprop(∃ κ : ℕ, cellInv ER (Rd m ρ) κ (kcell (c, x))) : sProp 𝕄) from by
        rw [← bigSep_sep']
        exact (bigSep_mono fun x _ => (Rounds.body_intro ER (Rd m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## Who pays which token -/

/-- The device a due is owed to, as a permutation of the devices. -/
def dueE : Due → Dev nD ≃ Dev nD
  | .inl 0 => rightE
  | .inl 1 => leftE
  | .inl 2 => acrossE
  | .inr a0 | .inr a1 | .inr a2 | .inr p0 | .inr p1 | .inr p2 => rightE
  | .inr b0 | .inr b1 | .inr b2 | .inr q0 | .inr q1 | .inr q2 => leftE
  | .inr z0 | .inr z1 | .inr z2 | .inr z3 | .inr y => acrossE
theorem dueE_eq (e : Due) (c : Dev nD) : dueE e c = dueDst e c := by
  rcases e with d | i
  · fin_cases d <;> rfl
  · cases i <;> rfl

/-- The device that pays a token of its own semaphores keeps it, the other tokens go to those who owe. -/
def payToks (c : Dev nD) : sProp 𝕄 :=
  iprop((bigSep Finset.univ fun d : Fin 3 => dutyTok ER (gcell .bar (dueDst (.inl d) c)) 0 d)
    ∗ (bigSep Finset.univ fun i : Cp => dutyTok ER (gcell (.snd i) c) 0 0) ∗ bigSep Finset.univ fun i : Cp => dutyTok ER (gcell (.rcv i) (dst i c)) 0 0)

theorem bigSep_swap {I J : Type} [Fintype I] [Fintype J] (Φ : I → J → sProp 𝕄) :
    (bigSep Finset.univ fun j : J => bigSep Finset.univ fun i : I => Φ i j) = bigSep Finset.univ fun i : I => bigSep Finset.univ fun j : J => Φ i j := by
  rw [← bigSep_univ_prod (fun ji : J × I => Φ ji.2 ji.1), ← bigSep_univ_prod (fun ij : I × J => Φ ij.1 ij.2)]
  exact bigSep_univ_equiv (Equiv.prodComm I J) _

/-- Things of all devices, dealt along a permutation for each due. -/
theorem deal {I : Type} [Fintype I] [DecidableEq I] (e : I → Dev nD ≃ Dev nD) (Φ : I → Dev nD → sProp 𝕄) :
    (bigSep Finset.univ fun c : Dev nD => bigSep Finset.univ fun i : I => Φ i c) = bigSep Finset.univ fun c : Dev nD => bigSep Finset.univ fun i : I => Φ i (e i c) := by
  rw [bigSep_swap Φ, bigSep_swap fun i c => Φ i (e i c)]
  exact bigSep_congr fun i _ => bigSep_univ_equiv (e i) (Φ i)

theorem toks_around : (bigSep Finset.univ fun c : Dev nD => (toks c : sProp 𝕄)) = bigSep Finset.univ fun c : Dev nD => payToks c := by
  unfold toks payToks
  have h (c : Dev nD) : (bigSep Finset.univ fun t : Tok => (dutyTok ER (gcell (tokCell t) c) 0 (tokTag t) : sProp 𝕄))
      = iprop((bigSep Finset.univ fun d : Fin 3 => dutyTok ER (gcell .bar c) 0 d) ∗ (bigSep Finset.univ fun i : Cp => dutyTok ER (gcell (.snd i) c) 0 0)
        ∗ bigSep Finset.univ fun i : Cp => dutyTok ER (gcell (.rcv i) c) 0 0) := by
    rw [bigSep_univ_sum, bigSep_univ_sum]; rfl
  rw [bigSep_congr fun c _ => h c, bigSep_sep', bigSep_sep', bigSep_sep', bigSep_sep',
    deal (fun d : Fin 3 => dueE (.inl d)) (fun d c => dutyTok ER (gcell .bar c) 0 d), deal (fun i : Cp => dueE (.inr i)) (fun i c => dutyTok ER (gcell (.rcv i) c) 0 0)]
  simp only [dueE_eq]
  rfl

/-! ## What one device starts with -/

def linear (c : Dev nD) : sProp 𝕄 := iprop((bigSep Finset.univ fun x : Cell => atPos ER (kcell (c, x)) 0 ∅ 0) ∗ payToks c)
def G' (c : Dev nD) : sProp 𝕄 := iprop(∃ K, records m ρ K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x => iprop(∃ κ : ℕ, cellInv ER (Rd m ρ) κ (kcell (c, x))))
          ∗ (bigSep Finset.univ fun x => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun ck : Dev nD × Cell => iprop(∃ κ : ℕ, cellInv ER (Rd m ρ) κ (kcell ck))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun ck : Dev nD × Cell => (reached ER (kcell ck) 0 : sProp 𝕄)), toks_around]
  iintro ⟨HI, ⟨Hat, #HR⟩, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  iapply (bigSep_with_persistent (R := records m ρ K) (Φ := linear) fun c _ => show iprop(records m ρ K ∗ linear c) ⊢ G' m ρ c by unfold G'; iintro H; iexists K; iexact H)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of a cell -/

/-- What all devices together owe one cell by one due. -/
theorem sum_due (e : Due) (x : Cell) (c : Dev nD) : ∑ d : Dev nD, dueTally d e (gcell x c) () = if dueCell e = x then dueAmt e else 0 := by
  by_cases h : dueCell e = x
  · rw [if_pos h, Finset.sum_eq_single ((dueE e).symm c)]
    · rw [tallyAt_apply, if_pos]
      rw [← dueE_eq, Equiv.apply_symm_apply, h]; exact ⟨rfl, rfl⟩
    · intro d _ hd
      rw [tallyAt_apply, if_neg]
      intro h'
      refine hd ?_
      rw [Equiv.eq_symm_apply, dueE_eq]
      exact (congrArg (fun g : GSem nD τ sig => g.1.1) h'.1).symm
    · intro h'; exact absurd (Finset.mem_univ _) h'
  · rw [if_neg h]
    refine Finset.sum_eq_zero fun d _ => ?_
    rw [tallyAt_apply, if_neg]
    exact fun h' => h (csem_injective (congrArg Prod.snd h'.1)).symm

theorem sum_owed (l : List Due) (x : Cell) (c : Dev nD) :
    ∑ d : Dev nD, oweL d l (gcell x c) () = (l.map fun e => if dueCell e = x then dueAmt e else 0).sum := by
  induction l with
  | nil => exact Finset.sum_eq_zero fun d _ => rfl
  | cons e l ih =>
    rw [List.map_cons, List.sum_cons, ← ih, ← sum_due e x c, Nat.add_comm, ← Finset.sum_add_distrib]
    exact Finset.sum_congr rfl fun d _ => rfl

theorem sum_bar : (allDues.map fun e => if dueCell e = .bar then dueAmt e else 0).sum = 3 := by
  simp [allDues, dueCell, dueAmt]
theorem sum_rcv (i : Cp) : (allDues.map fun e => if dueCell e = .rcv i then dueAmt e else 0).sum = amt i := by
  cases i <;> simp [allDues, dueCell, dueAmt]

theorem launch_cell (x : Cell) (c : Dev nD) (n : ℕ) (h : (allDues.map fun e => if dueCell e = x then dueAmt e else 0).sum = n) :
    tallyOn (gcell x c) (launchCredit (Pipeline.owing O₀) 0 (gcell x c)) = (tallyAt (gcell x c) () n : CellTallies nD τ sig Unit) := by
  unfold tallyAt; refine congrArg _ (Finsupp.ext fun u => ?_); cases u
  rw [Pipeline.launchCredit_owing, Finsupp.single_eq_same, ← h]
  exact sum_owed allDues x c

theorem creds (c : Dev nD) :
    (Pipeline.launchCred O₀ c : sProp 𝕄) ⊢ iprop(cred (tallyAt (gcell .bar c) () 3) ∗ bigSep Finset.univ fun i => cred (tallyAt (gcell (.rcv i) c) () (amt i))) := by
  unfold Pipeline.launchCred
  refine BIBase.Entails.trans (bigSep_subset (Finset.subset_univ (Finset.univ.image csem))) ?_
  rw [bigSep_image_of_injOn (fun _ _ _ _ h => csem_injective h), bigSep_Cell]
  iintro ⟨Hb, -, Hr⟩
  isplitl [Hb]
  · iapply (Entails.of_eq (congrArg cred (launch_cell .bar c 3 sum_bar))); iexact Hb
  · iapply (Entails.of_eq (bigSep_congr fun i _ => congrArg cred (launch_cell (.rcv i) c (amt i) (sum_rcv i)))); iexact Hr

/-- What a device has when the kernel begins. -/
def start (c : Dev nD) : sProp 𝕄 :=
  iprop(G' m ρ c ∗ (cred (tallyAt (gcell .bar c) () 3) ∗ bigSep Finset.univ fun i => cred (tallyAt (gcell (.rcv i) c) () (amt i))) ∗ levAts L lv)

theorem start_devPre (c : Dev nD) : iprop(start m ρ c ∗ scratch c) ⊢ iprop(∃ K, env m ρ K ∗ devPre c) := by
  unfold start G' linear payToks env devPre toStart toWait barToks
  rw [bigSep_Cell, bigSep_three, bigSep_sep', bigSep_sep', bigSep_sep']
  iintro ⟨⟨⟨%K, HR, ⟨HaB, HaS, HaV⟩, HtB, HtS, HtV⟩, ⟨HcB, HcV⟩, HL⟩, Hs⟩
  iexists K
  isplitl [HR HL]
  · isplitl [HR]; · iexact HR
    iexact HL
  isplitl [HaB HcB]
  · isplitl [HaB]; · iexact HaB
    iexact HcB
  isplitl [HtB]; · iexact HtB
  isplitl [HtS HtV HaS]
  · isplitl [HtS]; · iexact HtS
    isplitl [HtV] <;> iassumption
  isplitl [HaV HcV]
  · isplitl [HaV]; · iexact HaV
    iexact HcV
  iexact Hs

end Cert.KernelIdeal.Run

end
-- ==== Proof.KernelIdeal.Launch.lean ====
/-
# The run of the whole mesh

Every execution ends, with the result array of each device as the body left it, the arguments unchanged and all
counters at zero.
-/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cp

variable {F : FTy → Type} [FloatOps F]

local notation "𝕄" => MT nD τ sig Unit (Elt F) ℕ UU ℕ

variable (m : (ℓ : Loc nD τ sig) → Buf (Elt F) ℓ) (ρ : Dev nD → PrngReg)

/-! ## The three stores cover the result -/

theorem write_congr {κ : Kind} {sp : Space} {s : Shape} {e : EltTy} (v : View sig κ sp s e) (f g : v.ty.Contents (Elt F)) (w : s.Idx → Elt F e) (i : v.ty.Idx)
    (h : i ∉ v.set → f i = g i) : v.write (Elt F) f w Finset.univ i = v.write (Elt F) g w Finset.univ i := by
  by_cases hi : i ∈ v.set
  · obtain ⟨x, -, rfl⟩ := Finset.mem_map.mp hi
    rw [View.write_emb_of_mem f w (Finset.mem_univ x), View.write_emb_of_mem g w (Finset.mem_univ x)]
  · rw [View.write_of_not_mem f w _ hi, View.write_of_not_mem g w _ hi]; exact h hi

theorem mem_access (r : Rect S512x2048) (i : S512x2048.Idx) : i ∈ (oM.access r).set ↔ i ∈ r.set := by
  show i ∈ ((View.whole cc0_stg2_0).slice r).set ↔ _
  rw [View.set_slice_whole]

theorem stored_eq (c : Dev nD) (f g : (cc0_stg2_0 : Ref sig .tc).ty.Contents (Elt F)) : stored m ρ c f = stored m ρ c g := by
  funext i
  refine write_congr (oM.access oRU) _ _ _ i fun hU => ?_
  refine write_congr (oM.access oRB) _ _ _ i fun hB => ?_
  refine write_congr (oM.access oRA) _ _ _ i fun hA => ?_
  rw [mem_access, Rect.mem_set_unit] at hU hB hA
  have h0 : (i 0).val < 512 := (i 0).isLt
  have h1 : (i 1).val < 2048 := (i 1).isLt
  have two (o s : Fin 2 → ℕ) (h : ¬ ∀ a, o a ≤ (i a).val ∧ (i a).val < o a + s a) (e : o 0 = 0 ∧ s 0 = 512) : ¬ (o 1 ≤ (i 1).val ∧ (i 1).val < o 1 + s 1) := fun h' => h fun a => by
    fin_cases a
    · exact ⟨by show o 0 ≤ _; omega, by show (i 0).val < o 0 + s 0; omega⟩
    · exact h'
  have hU := two ![0, 0] S512x1152.size hU ⟨rfl, rfl⟩
  have hB := two ![0, 1664] S512x384.size hB ⟨rfl, rfl⟩
  have hA := two ![0, 1152] S512x512.size hA ⟨rfl, rfl⟩
  have hU : ¬ (0 ≤ (i 1).val ∧ (i 1).val < 0 + 1152) := hU
  have hB : ¬ (1664 ≤ (i 1).val ∧ (i 1).val < 1664 + 384) := hB
  have hA : ¬ (1152 ≤ (i 1).val ∧ (i 1).val < 1152 + 512) := hA
  omega

/-- The result block of a device: the three column ranges, over contents that no longer matter. -/
def outAt (c : Dev nD) : (cc0_stg2_0 : Ref sig .tc).ty.Contents (Elt F) := stored m ρ c (wstg m ρ c)

/-! ## The pipeline's data -/

theorem fin_N (t : Fin cfg0.N) : t = t0_0 := fin_N0 t

def Φ₀ (c : Dev nD) : sProp 𝕄 := iprop(start m ρ c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => devPost c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def bodyPost (c : Dev nD) : sProp 𝕄 :=
  iprop(devPost c ∗ (dats m ρ 0 c).owesAt () t0_0.succ ∗ stg c cc0_stg0_0 (xstg m ρ c) ∗ stg c cc0_stg1_0 (wstg m ρ c) ∗ stg c cc0_stg2_0 (outAt m ρ c))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

set_option maxRecDepth 4000 in
theorem sound_body (c : Dev nD) :
    bodyPre m ρ c ⊢ run (F := F) c (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scratch17 cc0_scratch18) (fun _ => bodyPost m ρ c) := by
  unfold bodyPre Φ₀
  iintro ⟨Hst, Ho, ⟨%d0, %g0, %h0, Hx⟩, ⟨%d1, %g1, %h1, Hw⟩, ⟨%d2, %g2, %h2, Hout⟩⟩
  have hx : g0 = xstg m ρ c := h0.trans (before_x m ρ c d0)
  have hw : g1 = wstg m ρ c := h1.trans (before_w m ρ c d1)
  subst hx hw
  ihave H := (start_devPre m ρ c) $$ Hst
  icases H with ⟨%K, HE, HP⟩
  unfold Dat.owesAt Pipeline.owesWithin
  icases Ho with ⟨%W, %hW, HO⟩
  iapply (wp_body m ρ K c fun _ => bodyPost m ρ c) $$ [HE HP HO Hx Hw Hout]
  · isplitl [HE]; · iexact HE
    isplitl [HP]; · iexact HP
    isplitl [HO]; · unfold owing OW; iexists W; iexact HO
    isplitl [Hx]; · iexact Hx
    isplitl [Hw]; · iexact Hw
    iexists g2; iexact Hout
  iintro %f HP HO Hx Hw Hout
  unfold bodyPost Dat.owesAt Pipeline.owesWithin owing OW
  isplitl [HP]; · iexact HP
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; exact stored_eq m ρ c f (wstg m ρ c))
  iexact Hout

set_option maxRecDepth 50000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scratch17 cc0_scratch18) (fun _ => bodyPost m ρ c)
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, wholes_eq]
  unfold Φ₀
  iintro ⟨Hs, -, Hr⟩
  isplitl [Hs]; · iexact Hs
  iapply (scratch_split c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = devPost c from rfl, wholes_eq, ownSems0_eq, unscopedSems0_eq]
  unfold devPost
  iintro ⟨Hr, HzB, HzS, HzV⟩
  isplitl [HzB]; · iexact HzB
  isplitl [HzS HzV]
  · isplitl [HzS] <;> iassumption
  iapply (scratch_join c m); iexact Hr

/-- A staging semaphore is below everything owed. -/
theorem mayWait_stage (c : Dev nD) (q : DmaSem sig) (hq : ∀ x, csem x ≠ .dma q) (O : CellTallies nD τ sig Unit) (hO : O = O₀ c ∨ O = 0) :
    (levAts L lv : sProp 𝕄) ⊢ MayWait (c : Thread nD τ) (.dma q) () O := by
  have h : lv ((c : Thread nD τ), (.dma q : SemLoc sig)) () ≤ 0 := by unfold lv; rw [find_none hq]; exact Nat.le_refl 0
  rcases hO with rfl | rfl
  · exact mayWait_of c (.dma q) 0 h allDues (by decide)
  · exact mayWait_of c (.dma q) 0 h [] (by decide)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On all eight devices, for any float values and from any memory with zero counters: every weakly fair execution
    ends, with the arrays as computed and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Run

end
-- ==== Proof.KernelIdeal.Blocks.lean ====
/-
# What one block's computation gives over the reals

The kernel's blocks are products of 512 rows of `x` with some columns of `w`, alone or added to what a slot holds. Each is
read at an entry here, for any number of columns; the entries are then named `part d q i j`: device `d`'s share of row
`i` of row block `q`, column `j`, of the whole product.
-/
module

public import proofs.«01_k».proof.Proof.KernelIdeal.Launch
public import Idealize.ShloMosaic.Lib.MatmulPlain
public import Idealize.ShloMosaic.Lib.ValueIdx
public import Idealize.ShloMosaic.Lib.ValueLayout

@[expose] public section

noncomputable section

namespace Cert.KernelIdeal.Run

open Cert.KernelIdeal Cert.KernelIdeal.Gen
open Idealize.ShloMosaic Idealize.ShloMosaic.TcCoe Idealize.ShloMosaic.ValueIdx
open Idealize.SL.Sem
open scoped BigOperators

/-! ## Products, at an entry, for any number of columns -/

section Forms

variable {n : ℕ}

abbrev Flat (n : ℕ) : Shape := ⟨2, ![512, n]⟩
abbrev Slot (n : ℕ) : Shape := ⟨3, ![1, 512, n]⟩

/-- An entry of a block's product. -/
def prod (x : FVec Ideal (Flat 512) .f32) (w : FVec Ideal (Flat n) .f32) (i : Fin 512) (j : Fin n) : EReal :=
  ∑ k : Fin 512, x (ix2 i k) * w (ix2 k j)

variable (x : FVec Ideal (Flat 512) .f32) (w : FVec Ideal (Flat n) .f32) (a z : FVec Ideal (Slot n) .f32)
  (hx : (Flat 512).ShapeCasts (Flat 512)) (hw : (Flat n).ShapeCasts (Flat n))
  (down : (Slot n).ShapeCasts (Flat n)) (up : (Flat n).ShapeCasts (Slot n)) (i : Fin 512) (j : Fin n)

/-- The product the kernel takes of two loaded blocks. -/
abbrev times : FVec Ideal (Flat n) .f32 :=
  matmul (DotDims.plain 512 512 n) none (shapeCast (Flat 512) x hx) (shapeCast (Flat n) w hw) (constant (Flat n) .f32 0x00000000#32)

theorem times_at : times x w hx hw (ix2 i j) = prod x w i j := by
  unfold times
  rw [shapeCast_self, shapeCast_self]
  refine (Ideal.matmul_plain_apply none x w _ i j).trans ?_
  rw [show (constant (F := Ideal) (Flat n) .f32 0x00000000#32) (ix2 i j) = 0 from Ideal.ofBits_zero_f32, zero_add]
  rfl

/-- A product stored in a slot. -/
theorem slot_times : shapeCast (Slot n) (times x w hx hw) up (ix3 0 i j) = prod x w i j :=
  (shapeCast_ab_1ab_apply _ up 0 i j).trans (times_at x w hx hw i j)

/-- A product added to what a slot holds. -/
theorem slot_add : shapeCast (Slot n) (addf (shapeCast (Flat n) a down) (times x w hx hw)) up (ix3 0 i j) = a (ix3 0 i j) + prod x w i j :=
  (shapeCast_ab_1ab_apply _ up 0 i j).trans (congrArg₂ (· + ·) (shapeCast_1ab_ab_apply a down i j) (times_at x w hx hw i j))

/-- A product plus a received one. -/
theorem flat_pair : addf (times x w hx hw) (shapeCast (Flat n) z down) (ix2 i j) = prod x w i j + z (ix3 0 i j) :=
  congrArg₂ (· + ·) (times_at x w hx hw i j) (shapeCast_1ab_ab_apply z down i j)

theorem slot_pair : shapeCast (Slot n) (addf (times x w hx hw) (shapeCast (Flat n) z down)) up (ix3 0 i j) = prod x w i j + z (ix3 0 i j) :=
  (shapeCast_ab_1ab_apply _ up 0 i j).trans (flat_pair x w z hx hw down i j)

/-- That, added to what a slot holds. -/
theorem flat_more : addf (shapeCast (Flat n) a down) (addf (times x w hx hw) (shapeCast (Flat n) z down)) (ix2 i j)
    = a (ix3 0 i j) + (prod x w i j + z (ix3 0 i j)) :=
  congrArg₂ (· + ·) (shapeCast_1ab_ab_apply a down i j) (flat_pair x w z hx hw down i j)

theorem slot_more : shapeCast (Slot n) (addf (shapeCast (Flat n) a down) (addf (times x w hx hw) (shapeCast (Flat n) z down))) up (ix3 0 i j)
    = a (ix3 0 i j) + (prod x w i j + z (ix3 0 i j)) :=
  (shapeCast_ab_1ab_apply _ up 0 i j).trans (flat_more x w a z hx hw down i j)

end Forms

/-! ## A device's share of an entry of the whole product -/

variable (m : (ℓ : Loc nD τ sig) → Buf (Elt Ideal) ℓ) (ρ : Dev nD → PrngReg)

/-- The row of `x` that is row `i` of row block `q`. -/
def rowOf (q : Fin 8) (i : Fin 512) : Fin 4096 := ⟨512 * q.val + i.val, by have := q.isLt; have := i.isLt; omega⟩

/-- What device `d` holds, as matrices over the reals. -/
def xOf (d : Dev nD) : (⟨2, ![4096, 512]⟩ : Shape).Idx → EReal := xstg (F := Ideal) m ρ d
def wOf (d : Dev nD) : (⟨2, ![512, 2048]⟩ : Shape).Idx → EReal := wstg (F := Ideal) m ρ d

def part (d : Dev nD) (q : Fin 8) (i : Fin 512) (j : Fin 2048) : EReal :=
  ∑ k : Fin 512, xOf m ρ d (ix2 (rowOf q i) k) * wOf m ρ d (ix2 k j)

/-- The offset names row block `q`. -/
abbrev Names (o : Fin 2 → ℕ) (q : Fin 8) : Prop := o 0 = 512 * q.val ∧ o 1 = 0

/-- Rows of `x` times columns of `w`, from an offset that names row block `q` and from column `lo`. -/
theorem prod_part {n : ℕ} (lo : ℕ) (d : Dev nD) (q : Fin 8) (o : Fin 2 → ℕ) (h : ∀ a, o a + S512x512.size a ≤ S4096x512.size a)
    (hw : ∀ a, (![0, lo] : Fin 2 → ℕ) a + (Flat n).size a ≤ S512x2048.size a) (ho : Names o q) (i : Fin 512) (j : Fin n) (J : Fin 2048)
    (hJ : J.val = lo + j.val) :
    prod (xRows (F := Ideal) m ρ d o h) (wM.view.readAt (Elt Ideal) (Rect.unit (s := S512x2048) ![0, lo] (Flat n).size hw).toLoadRect (wstg m ρ d)) i j
      = part m ρ d q i J := by
  refine Finset.sum_congr rfl fun k _ => congrArg₂ (· * ·) ?_ ?_
  · show xOf m ρ d _ = xOf m ρ d _
    refine congrArg _ (funext fun a => Fin.ext ?_)
    match a with
    | ⟨0, _⟩ => show o 0 + 1 * i.val = 512 * q.val + i.val; rw [ho.1, one_mul]
    | ⟨1, _⟩ => show o 1 + 1 * k.val = k.val; rw [ho.2, one_mul, zero_add]
  · show wOf m ρ d _ = wOf m ρ d _
    refine congrArg _ (funext fun a => Fin.ext ?_)
    match a with
    | ⟨0, _⟩ => show 0 + 1 * k.val = k.val; omega
    | ⟨1, _⟩ => show lo + 1 * j.val = J.val; omega

end Cert.KernelIdeal.Run

end
-- ==== Proof.KernelIdeal.Sums.lean ====
/-
# What the rings gather

Along each ring a slot travels over four devices, and each of them adds the same row block of its own product. The row
block is that of the device at which the slot ends, so what arrives is a sum of shares of that device's rows.
-/
module

public import proofs.«01_k».proof.Proof.KernelIdeal.Blocks

@[expose] public section

noncomputable section

namespace Cert.KernelIdeal.Run

open Cert.KernelIdeal Cert.KernelIdeal.Gen
open Idealize.ShloMosaic Idealize.ShloMosaic.TcCoe Idealize.ShloMosaic.ValueIdx
open Idealize.SL.Sem
open scoped BigOperators

/-! ## The row blocks that the offsets name, along each ring up to device `c` -/

theorem rowsA (c : Dev nD) : Names (k0_off1 (left (left (left c))) 3#32) c ∧ Names (k0_off4 (left (left c)) 0#32) c
    ∧ Names (k0_off4 (left c) 1#32) c ∧ Names (k0_off4 c 2#32) c := by revert c; decide +kernel

theorem rowsB (c : Dev nD) : Names (k0_off2 (right (right (right (across c)))) 1#32) c ∧ Names (k0_off5 (right (right (across c))) 0#32) c
    ∧ Names (k0_off5 (right (across c)) 1#32) c ∧ Names (k0_off5 (across c) 2#32) c := by revert c; decide +kernel

theorem rowsP (c : Dev nD) : Names (k0_off1 (left (left (left c))) 3#32) c ∧ Names (k0_off1 (left (left c)) 2#32) c
    ∧ Names (k0_off1 (left c) 1#32) c ∧ Names (k0_off6 c) c := by revert c; decide +kernel

theorem rowsQ (c : Dev nD) : Names (k0_off1 (right (right (right c))) 1#32) c ∧ Names (k0_off1 (right (right c)) 2#32) c
    ∧ Names (k0_off1 (right c) 3#32) c ∧ Names (k0_off6 c) c := by revert c; decide +kernel

theorem rowsZP (c : Dev nD) : Names (k0_off2 (across (left (left (left c)))) 3#32) c ∧ Names (k0_off2 (across (left (left c))) 2#32) c
    ∧ Names (k0_off2 (across (left c)) 1#32) c ∧ Names (k0_off3 (across c)) c := by revert c; decide +kernel

theorem rowsZQ (c : Dev nD) : Names (k0_off2 (across (right (right (right c)))) 1#32) c ∧ Names (k0_off2 (across (right (right c))) 2#32) c
    ∧ Names (k0_off2 (across (right c)) 3#32) c ∧ Names (k0_off3 (across c)) c := by revert c; decide +kernel

variable (m : (ℓ : Loc nD τ sig) → Buf (Elt Ideal) ℓ) (ρ : Dev nD → PrngReg) (c : Dev nD) (i : Fin 512)

/-! ## The first rings -/

/-- The ring to the right, ending at `c`. -/
theorem ringA (j : Fin 1152) (J : Fin 2048) (hJ : J.val = 0 + j.val) : vA3 (F := Ideal) m ρ c (ix3 0 i j)
    = part m ρ (left (left (left c))) c i J + part m ρ (left (left c)) c i J + part m ρ (left c) c i J + part m ρ c c i J := by
  obtain ⟨h0, h1, h2, h3⟩ := rowsA c
  have s0 : vA0 (F := Ideal) m ρ (left (left (left c))) (ix3 0 i j) = _ :=
    (slot_times (n := 1152) _ _ _ _ _ i j).trans (prod_part m ρ 0 _ c _ _ _ h0 i j J hJ)
  have s1 : vA1 (F := Ideal) m ρ (left (left c)) (ix3 0 i j) = _ :=
    (slot_add (n := 1152) _ _ _ _ _ _ _ i j).trans (congrArg₂ (· + ·) s0 (prod_part m ρ 0 _ c _ _ _ h1 i j J hJ))
  have s2 : vA2 (F := Ideal) m ρ (left c) (ix3 0 i j) = _ :=
    (slot_add (n := 1152) _ _ _ _ _ _ _ i j).trans (congrArg₂ (· + ·) s1 (prod_part m ρ 0 _ c _ _ _ h2 i j J hJ))
  exact (slot_add (n := 1152) _ _ _ _ _ _ _ i j).trans (congrArg₂ (· + ·) s2 (prod_part m ρ 0 _ c _ _ _ h3 i j J hJ))

/-- The ring to the left, ending at `c`'s partner. -/
theorem ringB (j : Fin 1152) (J : Fin 2048) (hJ : J.val = 0 + j.val) : vB3 (F := Ideal) m ρ (across c) (ix3 0 i j)
    = part m ρ (right (right (right (across c)))) c i J + part m ρ (right (right (across c))) c i J + part m ρ (right (across c)) c i J
      + part m ρ (across c) c i J := by
  obtain ⟨h0, h1, h2, h3⟩ := rowsB c
  have s0 : vB0 (F := Ideal) m ρ (right (right (right (across c)))) (ix3 0 i j) = _ :=
    (slot_times (n := 1152) _ _ _ _ _ i j).trans (prod_part m ρ 0 _ c _ _ _ h0 i j J hJ)
  have s1 : vB1 (F := Ideal) m ρ (right (right (across c))) (ix3 0 i j) = _ :=
    (slot_add (n := 1152) _ _ _ _ _ _ _ i j).trans (congrArg₂ (· + ·) s0 (prod_part m ρ 0 _ c _ _ _ h1 i j J hJ))
  have s2 : vB2 (F := Ideal) m ρ (right (across c)) (ix3 0 i j) = _ :=
    (slot_add (n := 1152) _ _ _ _ _ _ _ i j).trans (congrArg₂ (· + ·) s1 (prod_part m ρ 0 _ c _ _ _ h2 i j J hJ))
  exact (slot_add (n := 1152) _ _ _ _ _ _ _ i j).trans (congrArg₂ (· + ·) s2 (prod_part m ρ 0 _ c _ _ _ h3 i j J hJ))

/-! ## The exchanged blocks -/

omit m ρ c in
theorem colA_at (v : Vec Ideal S1x512x896 .f32) (j : Fin 512) : colA (F := Ideal) v (ix3 0 i j) = v (ix3 0 i ⟨j.val, by omega⟩) := by
  refine congrArg v (funext fun a => Fin.ext ?_)
  match a with
  | ⟨0, _⟩ => rfl
  | ⟨1, _⟩ => show 0 + 1 * i.val = i.val; omega
  | ⟨2, _⟩ => show 0 + 1 * j.val = j.val; omega

omit m ρ c in
theorem colB_at (v : Vec Ideal S1x512x896 .f32) (j : Fin 384) : colB (F := Ideal) v (ix3 0 i j) = v (ix3 0 i ⟨512 + j.val, by omega⟩) := by
  refine congrArg v (funext fun a => Fin.ext ?_)
  match a with
  | ⟨0, _⟩ => rfl
  | ⟨1, _⟩ => show 0 + 1 * i.val = i.val; omega
  | ⟨2, _⟩ => show 512 + 1 * j.val = 512 + j.val; omega

/-- An exchanged block in a slot. -/
abbrev sent (d : Dev nD) (o : Fin 2 → ℕ) (h : ∀ a, o a + S512x512.size a ≤ S4096x512.size a) : FVec Ideal (Slot 896) .f32 :=
  shapeCast (Slot 896) (times (n := 896) (xRows (F := Ideal) m ρ d o h) (wT m ρ d) shapeCasts_S512x512_S512x512 shapeCasts_S512x896_S512x896)
    shapeCasts_S512x896_S1x512x896

/-- Its first 512 columns are columns 1152 to 1663 of the product, -/
theorem sentA (d : Dev nD) (o : Fin 2 → ℕ) (h : ∀ a, o a + S512x512.size a ≤ S4096x512.size a) (ho : Names o c) (j : Fin 512) (J : Fin 2048)
    (hJ : J.val = 1152 + j.val) : colA (F := Ideal) (sent m ρ d o h) (ix3 0 i j) = part m ρ d c i J :=
  (colA_at i _ j).trans ((slot_times _ _ _ _ _ i _).trans (prod_part m ρ 1152 d c o h _ ho i _ J hJ))

/-- and the other 384 are columns 1664 to 2047. -/
theorem sentB (d : Dev nD) (o : Fin 2 → ℕ) (h : ∀ a, o a + S512x512.size a ≤ S4096x512.size a) (ho : Names o c) (j : Fin 384) (J : Fin 2048)
    (hJ : J.val = 1664 + j.val) : colB (F := Ideal) (sent m ρ d o h) (ix3 0 i j) = part m ρ d c i J :=
  (colB_at i _ j).trans ((slot_times _ _ _ _ _ i _).trans (prod_part m ρ 1152 d c o h _ ho i _ J (by show J.val = 1152 + (512 + j.val); omega)))

/-! ## The second rings, and the three column ranges of the result -/

/-- Columns 0 to 1151. -/
theorem oU_at (j : Fin 1152) (J : Fin 2048) (hJ : J.val = 0 + j.val) : oU (F := Ideal) m ρ c (ix2 i j)
    = (part m ρ (left (left (left c))) c i J + part m ρ (left (left c)) c i J + part m ρ (left c) c i J + part m ρ c c i J)
      + (part m ρ (right (right (right (across c)))) c i J + part m ρ (right (right (across c))) c i J + part m ρ (right (across c)) c i J
        + part m ρ (across c) c i J) :=
  congrArg₂ (· + ·) ((shapeCast_1ab_ab_apply _ _ i j).trans (ringA m ρ c i j J hJ)) ((shapeCast_1ab_ab_apply _ _ i j).trans (ringB m ρ c i j J hJ))

/-- Columns 1152 to 1663: the ring to the right, each device adding its own and its partner's share. -/
theorem oA_at (j : Fin 512) (J : Fin 2048) (hJ : J.val = 1152 + j.val) : oA (F := Ideal) m ρ c (ix2 i j)
    = (part m ρ (left (left (left c))) c i J + part m ρ (across (left (left (left c)))) c i J)
      + (part m ρ (left (left c)) c i J + part m ρ (across (left (left c))) c i J)
      + (part m ρ (left c) c i J + part m ρ (across (left c)) c i J) + (part m ρ c c i J + part m ρ (across c) c i J) := by
  obtain ⟨h0, h1, h2, h3⟩ := rowsP c
  obtain ⟨z0, z1, z2, z3⟩ := rowsZP c
  have s0 : vP0 (F := Ideal) m ρ (left (left (left c))) (ix3 0 i j) = _ := (slot_pair (n := 512) _ _ _ _ _ _ _ i j).trans
    (congrArg₂ (· + ·) (prod_part m ρ 1152 _ c _ _ _ h0 i j J hJ) (sentA m ρ c i _ _ (k0_off2_inb _ 2) z0 j J hJ))
  have s1 : vP1 (F := Ideal) m ρ (left (left c)) (ix3 0 i j) = _ := (slot_more (n := 512) _ _ _ _ _ _ _ _ i j).trans
    (congrArg₂ (· + ·) s0 (congrArg₂ (· + ·) (prod_part m ρ 1152 _ c _ _ _ h1 i j J hJ) (sentA m ρ c i _ _ (k0_off2_inb _ 1) z1 j J hJ)))
  have s2 : vP2 (F := Ideal) m ρ (left c) (ix3 0 i j) = _ := (slot_more (n := 512) _ _ _ _ _ _ _ _ i j).trans
    (congrArg₂ (· + ·) s1 (congrArg₂ (· + ·) (prod_part m ρ 1152 _ c _ _ _ h2 i j J hJ) (sentA m ρ c i _ _ (k0_off2_inb _ 0) z2 j J hJ)))
  exact (flat_more (n := 512) _ _ _ _ _ _ _ i j).trans
    (congrArg₂ (· + ·) s2 (congrArg₂ (· + ·) (prod_part m ρ 1152 _ c _ _ _ h3 i j J hJ) (sentA m ρ c i _ _ (k0_off3_inb _) z3 j J hJ)))

/-- Columns 1664 to 2047: the ring to the left. -/
theorem oB_at (j : Fin 384) (J : Fin 2048) (hJ : J.val = 1664 + j.val) : oB (F := Ideal) m ρ c (ix2 i j)
    = (part m ρ (right (right (right c))) c i J + part m ρ (across (right (right (right c)))) c i J)
      + (part m ρ (right (right c)) c i J + part m ρ (across (right (right c))) c i J)
      + (part m ρ (right c) c i J + part m ρ (across (right c)) c i J) + (part m ρ c c i J + part m ρ (across c) c i J) := by
  obtain ⟨h0, h1, h2, h3⟩ := rowsQ c
  obtain ⟨z0, z1, z2, z3⟩ := rowsZQ c
  have s0 : vQ0 (F := Ideal) m ρ (right (right (right c))) (ix3 0 i j) = _ := (slot_pair (n := 384) _ _ _ _ _ _ _ i j).trans
    (congrArg₂ (· + ·) (prod_part m ρ 1664 _ c _ _ _ h0 i j J hJ) (sentB m ρ c i _ _ (k0_off2_inb _ 0) z0 j J hJ))
  have s1 : vQ1 (F := Ideal) m ρ (right (right c)) (ix3 0 i j) = _ := (slot_more (n := 384) _ _ _ _ _ _ _ _ i j).trans
    (congrArg₂ (· + ·) s0 (congrArg₂ (· + ·) (prod_part m ρ 1664 _ c _ _ _ h1 i j J hJ) (sentB m ρ c i _ _ (k0_off2_inb _ 1) z1 j J hJ)))
  have s2 : vQ2 (F := Ideal) m ρ (right c) (ix3 0 i j) = _ := (slot_more (n := 384) _ _ _ _ _ _ _ _ i j).trans
    (congrArg₂ (· + ·) s1 (congrArg₂ (· + ·) (prod_part m ρ 1664 _ c _ _ _ h2 i j J hJ) (sentB m ρ c i _ _ (k0_off2_inb _ 2) z2 j J hJ)))
  exact (flat_more (n := 384) _ _ _ _ _ _ _ i j).trans
    (congrArg₂ (· + ·) s2 (congrArg₂ (· + ·) (prod_part m ρ 1664 _ c _ _ _ h3 i j J hJ) (sentB m ρ c i _ _ (k0_off3_inb _) z3 j J hJ)))

/-! ## In each range: the sum over all devices -/

/-- A sum over the devices, in the order of any list of them all. -/
theorem sum_of_list (f : Fin 8 → EReal) (l : List (Fin 8)) (h : l.Perm (List.finRange 8)) : (l.map f).sum = ∑ d : Fin 8, f d := by
  rw [Fin.sum_univ_def]; exact (h.map f).sum_eq

/-! The three orders in which the rings meet the devices. -/

theorem orderU : [left (left (left c)), left (left c), left c, c,
    right (right (right (across c))), right (right (across c)), right (across c), across c].Perm (List.finRange 8) := by
  revert c; decide +kernel

theorem orderA : [left (left (left c)), across (left (left (left c))), left (left c), across (left (left c)),
    left c, across (left c), c, across c].Perm (List.finRange 8) := by
  revert c; decide +kernel

theorem orderB : [right (right (right c)), across (right (right (right c))), right (right c), across (right (right c)),
    right c, across (right c), c, across c].Perm (List.finRange 8) := by
  revert c; decide +kernel

theorem oU_sum (j : Fin 1152) (J : Fin 2048) (hJ : J.val = 0 + j.val) : oU (F := Ideal) m ρ c (ix2 i j) = ∑ d : Fin 8, part m ρ d c i J := by
  rw [oU_at m ρ c i j J hJ, ← sum_of_list _ _ (orderU c)]
  simp only [List.map_cons, List.map_nil, List.sum_cons, List.sum_nil, add_zero, add_assoc]

theorem oA_sum (j : Fin 512) (J : Fin 2048) (hJ : J.val = 1152 + j.val) : oA (F := Ideal) m ρ c (ix2 i j) = ∑ d : Fin 8, part m ρ d c i J := by
  rw [oA_at m ρ c i j J hJ, ← sum_of_list _ _ (orderA c)]
  simp only [List.map_cons, List.map_nil, List.sum_cons, List.sum_nil, add_zero, add_assoc]

theorem oB_sum (j : Fin 384) (J : Fin 2048) (hJ : J.val = 1664 + j.val) : oB (F := Ideal) m ρ c (ix2 i j) = ∑ d : Fin 8, part m ρ d c i J := by
  rw [oB_at m ρ c i j J hJ, ← sum_of_list _ _ (orderB c)]
  simp only [List.map_cons, List.map_nil, List.sum_cons, List.sum_nil, add_zero, add_assoc]

end Cert.KernelIdeal.Run

end
-- ==== Proof.KernelIdeal.Result.lean ====
/-
# What the result array holds

Entry `(i, j)` of device `c`'s result is the sum over all devices of their shares of it, in each of the three column
ranges; and the arrays of a device are its blocks, whole.
-/
module

public import proofs.«01_k».proof.Proof.KernelIdeal.Sums

@[expose] public section

noncomputable section

namespace Cert.KernelIdeal.Run

open Cert.KernelIdeal Cert.KernelIdeal.Gen
open Idealize.ShloMosaic Idealize.ShloMosaic.TcCoe Idealize.ShloMosaic.ValueIdx
open Idealize.SL.Sem
open scoped BigOperators

section Store

variable {F : FTy → Type} [FloatOps F]

/-- A store of some columns, read inside them, -/
theorem store_in {n : ℕ} (lo : ℕ) (inb : ∀ a, (![0, lo] : Fin 2 → ℕ) a + (Flat n).size a ≤ S512x2048.size a)
    (f : (cc0_stg2_0 : Ref sig .tc).ty.Contents (Elt F)) (w : Vec F (Flat n) .f32) (i : Fin 512) (J : Fin 2048) (j : Fin n) (h : J.val = lo + j.val) :
    (oM.access (Rect.unit (s := S512x2048) ![0, lo] (Flat n).size inb)).write (Elt F) f w Finset.univ (ix2 i J) = w (ix2 i j) := by
  have e : (ix2 i J : S512x2048.Idx) = (oM.access (Rect.unit (s := S512x2048) ![0, lo] (Flat n).size inb)).emb (ix2 i j : (Flat n).Idx) := by
    refine funext fun a => Fin.ext ?_
    match a with
    | ⟨0, _⟩ => show i.val = 0 + 1 * i.val; omega
    | ⟨1, _⟩ => show J.val = lo + 1 * j.val; omega
  rw [e]
  exact View.write_emb_of_mem (v := oM.access (Rect.unit (s := S512x2048) ![0, lo] (Flat n).size inb)) f w (Finset.mem_univ _)

/-- and outside. -/
theorem store_out {n : ℕ} (lo : ℕ) (inb : ∀ a, (![0, lo] : Fin 2 → ℕ) a + (Flat n).size a ≤ S512x2048.size a)
    (f : (cc0_stg2_0 : Ref sig .tc).ty.Contents (Elt F)) (w : Vec F (Flat n) .f32) (i : Fin 512) (J : Fin 2048) (h : J.val < lo ∨ lo + n ≤ J.val) :
    (oM.access (Rect.unit (s := S512x2048) ![0, lo] (Flat n).size inb)).write (Elt F) f w Finset.univ (ix2 i J) = f (ix2 i J) := by
  refine View.write_of_not_mem (v := oM.access (Rect.unit (s := S512x2048) ![0, lo] (Flat n).size inb)) f w _ fun hi => ?_
  have h' := (Rect.mem_set_unit.mp ((mem_access _ _).mp hi)) 1
  have h1 : lo ≤ J.val := h'.1
  have h2 : J.val < lo + n := h'.2
  omega

end Store

variable (m : (ℓ : Loc nD τ sig) → Buf (Elt Ideal) ℓ) (ρ : Dev nD → PrngReg) (c : Dev nD)

theorem outAt_at (i : Fin 512) (J : Fin 2048) : outAt (F := Ideal) m ρ c (ix2 i J) = ∑ d : Fin 8, part m ρ d c i J := by
  have hJ := J.isLt
  unfold outAt
  rcases (by omega : J.val < 1152 ∨ 1664 ≤ J.val ∨ (1152 ≤ J.val ∧ J.val < 1664)) with hU | hB | hA
  · obtain ⟨j, e⟩ : ∃ j : Fin 1152, J.val = 0 + j.val := ⟨⟨J.val, hU⟩, by simp⟩
    exact (store_in (n := 1152) 0 _ _ _ i J j e).trans (oU_sum m ρ c i j J e)
  · obtain ⟨j, e⟩ : ∃ j : Fin 384, J.val = 1664 + j.val := ⟨⟨J.val - 1664, by omega⟩, by simp; omega⟩
    exact (store_out (n := 1152) 0 _ _ _ i J (by right; omega)).trans
      ((store_in (n := 384) 1664 _ _ _ i J j e).trans (oB_sum m ρ c i j J e))
  · obtain ⟨j, e⟩ : ∃ j : Fin 512, J.val = 1152 + j.val := ⟨⟨J.val - 1152, by omega⟩, by simp; omega⟩
    exact (store_out (n := 1152) 0 _ _ _ i J (by right; omega)).trans
      ((store_out (n := 384) 1664 _ _ _ i J (by left; omega)).trans
        ((store_in (n := 512) 1152 _ _ _ i J j e).trans (oA_sum m ρ c i j J e)))

/-! ## The arrays themselves -/

theorem xOf_eq : xOf m ρ c = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem wOf_eq : wOf m ρ c = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

/-- The result array ends as the body left it. -/
theorem finalA_o : finalA (F := Ideal) m ρ c (2 : Fin 3) = outAt m ρ c := by
  have hz : (fun a => (win0_2.index (0 : Fin 1)) a * main_v1.ty.shape.size a) = fun _ => 0 := funext fun a => by fin_cases a <;> decide
  have hr := Memref.read_access_unit_zero (Elt Ideal) main_v1 hz (fun a => by fin_cases a <;> decide) (finalA (F := Ideal) m ρ c (2 : Fin 3))
  refine hr.symm.trans ?_
  show (win0_2.blk (0 : Fin 1)).view.read (Elt Ideal) (finalA m ρ c (2 : Fin 3)) = outAt m ρ c
  unfold finalA
  rw [show cfg0.N = ((0 : Fin 1) : Fin cfg0.N).val + 1 from rfl, (dats (F := Ideal) m ρ 0 c).arrAt_succ (2 : Fin 3) (0 : Fin 1)]
  rw [show (cfg0.win (2 : Fin 3)).flush (0 : Fin 1) = true from by decide, if_pos rfl]
  exact View.read_write_univ _ _

end Cert.KernelIdeal.Run

end
-- ==== Proof.Product.lean ====
/-
# The equation

The reference's entry is a sum over 4096 positions; split in eight runs of 512, run `d` is device `d`'s share of it, so
what a device's result holds is its block of the whole product.
-/
module

public import proofs.«01_k».proof.Proof.KernelIdeal.Result
public import proofs.«01_k».proof.Proof.Gen.ReferenceIdeal
public import Idealize.ShloMosaic.Lib.Layout

@[expose] public section

noncomputable section

namespace Cert.Proof

open Idealize.ShloMosaic Idealize.ShloMosaic.TcCoe Idealize.ShloMosaic.ValueIdx
open Cert.KernelIdeal.Run (part xOf wOf xOf_eq wOf_eq outAt outAt_at rowOf)
open scoped BigOperators

/-- The whole arrays, over the reals. -/
abbrev WholeX : Type := FVec Ideal ⟨2, ![4096, 4096]⟩ .f32
abbrev WholeW : Type := FVec Ideal ⟨2, ![4096, 2048]⟩ .f32

/-! How the devices' parts tile them. -/
theorem tilesX : Layout.Tiles ⟨2, ![4096, 512]⟩ ⟨2, ![4096, 4096]⟩ 1 8 := by decide
theorem tilesW : Layout.Tiles ⟨2, ![512, 2048]⟩ ⟨2, ![4096, 2048]⟩ 0 8 := by decide

/-- The reference's result. -/
abbrev refOut (x : WholeX) (w : WholeW) : WholeW :=
  Host.dotGeneral Cert.ReferenceIdeal.dot_S4096x4096_S4096x2048_S4096x2048_1_0_0_1_n_n none x w

theorem refOut_at (x : WholeX) (w : WholeW) (R : Fin 4096) (J : Fin 2048) : refOut x w (ix2 R J) = ∑ k : Fin 4096, x (ix2 R k) * w (ix2 k J) := by
  have h := Ideal.matmul_plain_apply none x w (constant (F := Ideal) ⟨2, ![4096, 2048]⟩ .f32 0x00000000#32) R J
  rw [show (constant (F := Ideal) ⟨2, ![4096, 2048]⟩ .f32 0x00000000#32) (ix2 R J) = 0 from Ideal.ofBits_zero_f32, zero_add] at h
  rw [← h, Ideal.matmul_constant_zero_apply]
  exact Ideal.dotGeneral_apply _ _ _ x w (ix2 R J)

/-- A sum over 4096 positions, in eight runs. -/
theorem sum_runs (f : Fin 4096 → EReal) : ∑ k : Fin 4096, f k = ∑ d : Fin 8, ∑ k : Fin 512, f (rowOf d k) := by
  rw [← Equiv.sum_comp (finProdFinEquiv (m := 8) (n := 512)) f, Fintype.sum_prod_type]
  refine Finset.sum_congr rfl fun d _ => Finset.sum_congr rfl fun k _ => congrArg f (Fin.ext ?_)
  show k.val + 512 * d.val = 512 * d.val + k.val
  exact Nat.add_comm _ _

variable (m : (ℓ : Loc Cert.KernelIdeal.nD Cert.KernelIdeal.τ Cert.KernelIdeal.sig) → Buf (Elt Ideal) ℓ) (ρ : Dev Cert.KernelIdeal.nD → PrngReg)

section Blocks

variable (x : WholeX) (w : WholeW)
  (hx : ∀ d : Dev Cert.KernelIdeal.nD, xOf m ρ d = Layout.block ⟨2, ![4096, 512]⟩ ⟨2, ![4096, 4096]⟩ 1 8 d x tilesX)
  (hw : ∀ d : Dev Cert.KernelIdeal.nD, wOf m ρ d = Layout.block ⟨2, ![512, 2048]⟩ ⟨2, ![4096, 2048]⟩ 0 8 d w tilesW)

include hx hw

/-- If every device holds its columns of `x` and its rows of `w`, the shares of an entry make up the product's entry, -/
theorem shares (q : Fin 8) (i : Fin 512) (J : Fin 2048) :
    ∑ d : Fin 8, part m ρ d q i J = ∑ k : Fin 4096, x (ix2 (rowOf q i) k) * w (ix2 k J) := by
  rw [sum_runs]
  refine Finset.sum_congr rfl fun d _ => Finset.sum_congr rfl fun k _ => congrArg₂ (· * ·) ?_ ?_
  · rw [hx d]
    refine congrArg x (funext fun a => Fin.ext ?_)
    match a with
    | ⟨0, _⟩ => rfl
    | ⟨1, _⟩ => show d.val * 512 + k.val = 512 * d.val + k.val; omega
  · rw [hw d]
    refine congrArg w (funext fun a => Fin.ext ?_)
    match a with
    | ⟨0, _⟩ => show d.val * 512 + k.val = 512 * d.val + k.val; omega
    | ⟨1, _⟩ => rfl

/-- and a device's result is its rows of the product. -/
theorem out_block (c : Dev Cert.KernelIdeal.nD) :
    outAt (F := Ideal) m ρ c = Layout.block ⟨2, ![512, 2048]⟩ ⟨2, ![4096, 2048]⟩ 0 8 c (refOut x w) tilesW := by
  funext e
  obtain ⟨i, J, rfl⟩ : ∃ (i : Fin 512) (J : Fin 2048), e = ix2 i J := ⟨_, _, eq_ix2 e⟩
  rw [Layout.block_apply]
  have he : tilesW.idx c (ix2 i J) = ix2 (rowOf c i) J := by
    refine funext fun a => Fin.ext ?_
    match a with
    | ⟨0, _⟩ => show c.val * 512 + i.val = 512 * c.val + i.val; omega
    | ⟨1, _⟩ => rfl
  exact (outAt_at m ρ c i J).trans ((shares m ρ x w hx hw c i J).trans ((congrArg (refOut x w) he).trans (refOut_at x w (rowOf c i) J)).symm)

end Blocks

end Cert.Proof

end
-- ==== Proof.lean ====
/-
The proof of `Cert.Claim`: both readings of the kernel run on all eight devices, end with their arguments unchanged and
all counters at zero; so does the reference; and the idealized kernel computes the reference's value.
-/
module

public import proofs.«01_k».proof.Defs
public import proofs.«01_k».proof.Proof.Kernel.Launch
public import proofs.«01_k».proof.Proof.KernelIdeal.Launch
public import proofs.«01_k».proof.Proof.Product
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel at the machine's floats: `Cert.Kernel.Run.run_main`, read at the two argument arrays. -/
theorem frame_kernel : Cert.quiescent_Kernel := by
  intro m ρ _
  exact (θ_run Cert.Kernel.defs _ _).mono
    (fun _ h => ⟨fun c => ⟨(h.1 c (0 : Fin 3)).trans (Cert.Kernel.Run.finalA_x m ρ c), (h.1 c (1 : Fin 3)).trans (Cert.Kernel.Run.finalA_w m ρ c)⟩, h.2⟩)
    (Cert.Kernel.Run.run_main (F := Bits) m ρ)

/-- The same over the extended reals. -/
theorem frame_ideal : Cert.quiescent_KernelIdeal := by
  intro m ρ _
  exact (θ_run Cert.KernelIdeal.defs _ _).mono
    (fun _ h => ⟨fun c => ⟨(h.1 c (0 : Fin 3)).trans (Cert.KernelIdeal.Run.finalA_x m ρ c), (h.1 c (1 : Fin 3)).trans (Cert.KernelIdeal.Run.finalA_w m ρ c)⟩, h.2⟩)
    (Cert.KernelIdeal.Run.run_main (F := Ideal) m ρ)

/-- The reference writes neither argument and has no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The value: device `c`'s result ends as row block `c` of the reference's product of the whole arrays. -/
theorem value : Cert.algebraic_KernelIdeal_ReferenceIdeal := by
  intro m ρ m' ρ' _ held
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c (2 : Fin 3)).trans ((Cert.KernelIdeal.Run.finalA_o m ρ c).trans
          (out_block m ρ _ _ (fun d => (Cert.KernelIdeal.Run.xOf_eq m ρ d).trans (held d).1)
            (fun d => (Cert.KernelIdeal.Run.wOf_eq m ρ d).trans (held d).2) c)),
        (h.1 c (0 : Fin 3)).trans (Cert.KernelIdeal.Run.finalA_x m ρ c), (h.1 c (1 : Fin 3)).trans (Cert.KernelIdeal.Run.finalA_w m ρ c)⟩)
      (Cert.KernelIdeal.Run.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
